-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_fits_KernelIdeal [hPre_fits_KernelIdeal : Cert.Pre_fits_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_fits_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_fits_ReferenceIdeal [hPre_fits_ReferenceIdeal : Cert.Pre_fits_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_fits_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_fits_KernelIdeal [hKernelIdeal : Cert.KernelIdeal.Facts] [hPre_fits_KernelIdeal : Cert.Pre_fits_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_fits_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_fits_ReferenceIdeal [hReferenceIdeal : Cert.ReferenceIdeal.Facts] [hPre_fits_ReferenceIdeal : Cert.Pre_fits_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_fits_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_fits_KernelIdeal [hKernelIdeal : Cert.KernelIdeal.Facts] [hReferenceIdeal : Cert.ReferenceIdeal.Facts] [hPre_fits_KernelIdeal : Cert.Pre_fits_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_fits_KernelIdeal m →
    (∀ c : Dev Cert.KernelIdeal.nD,
      m ((c.tc : Thread Cert.KernelIdeal.nD Cert.KernelIdeal.τ).loc Cert.KernelIdeal.main_arg0) = Layout.block ⟨2, ![512, 512]⟩ ⟨2, ![4096, 512]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨1, ![512]⟩ ⟨1, ![4096]⟩ 0 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨3, ![2, 512, 1024]⟩ ⟨3, ![16, 512, 1024]⟩ 0 8 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨3, ![2, 1024, 512]⟩ ⟨3, ![16, 1024, 512]⟩ 0 8 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![512, 512]⟩ ⟨2, ![4096, 512]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v16) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_fits_KernelIdeal : Cert.Pre_fits_KernelIdeal.Facts) (hPre_fits_ReferenceIdeal : Cert.Pre_fits_ReferenceIdeal.Facts),
    quiescent_Kernel (hKernel := hKernel)
    ∧ quiescent_KernelIdeal (hKernelIdeal := hKernelIdeal)
    ∧ quiescent_KernelIdeal_pre_fits_KernelIdeal (hKernelIdeal := hKernelIdeal) (hPre_fits_KernelIdeal := hPre_fits_KernelIdeal)
    ∧ quiescent_ReferenceIdeal (hReferenceIdeal := hReferenceIdeal)
    ∧ quiescent_ReferenceIdeal_pre_fits_ReferenceIdeal (hReferenceIdeal := hReferenceIdeal) (hPre_fits_ReferenceIdeal := hPre_fits_ReferenceIdeal)
    ∧ preserves_Kernel_KernelIdeal
    ∧ algebraic_KernelIdeal_ReferenceIdeal_pre_fits_KernelIdeal (hKernelIdeal := hKernelIdeal) (hReferenceIdeal := hReferenceIdeal) (hPre_fits_KernelIdeal := hPre_fits_KernelIdeal)
-- ==== Pre_fits_KernelIdeal.lean ====
abbrev S512x512 : Shape := ⟨2, ![512, 512]⟩
abbrev S512 : Shape := ⟨1, ![512]⟩
abbrev S2x512x1024 : Shape := ⟨3, ![2, 512, 1024]⟩
abbrev S2x1024x512 : Shape := ⟨3, ![2, 1024, 512]⟩
abbrev S1x512 : Shape := ⟨2, ![1, 512]⟩
abbrev S16 : Shape := ⟨1, ![16]⟩
abbrev S16x1 : Shape := ⟨2, ![16, 1]⟩
abbrev S16x512 : Shape := ⟨2, ![16, 512]⟩
abbrev S_ : Shape := ⟨0, ![]⟩

class Facts : Prop where
  bcast_S512_S1x512_1 : S512.BroadcastsInDim S1x512 (![1] : Fin 1 → Fin S1x512.rank)
  bcast_S16_S16x1_0 : S16.BroadcastsInDim S16x1 (![0] : Fin 1 → Fin S16x1.rank)
  bcast_S1x512_S16x512_0_1 : S1x512.BroadcastsInDim S16x512 (![0, 1] : Fin 2 → Fin S16x512.rank)
  bcast_S16x1_S16x512_0_1 : S16x1.BroadcastsInDim S16x512 (![0, 1] : Fin 2 → Fin S16x512.rank)
  natLt_1_32 : 1 < 32
  reducesTo_S16x512_S16_d1 : S16x512.ReducesTo [1] S16
  h_S_ : 0 < S_.numel
  bcast_S_S16 : S_.BroadcastsInDim S16 (![] : Fin 0 → Fin S16.rank)
  reducesTo_S16_S_d0 : S16.ReducesTo [0] S_

variable [Facts]

def fn {F : FTy → Type} [FloatOps F] (main_arg0 : FVec F S512x512 .bf16) (main_arg1 : IVec S512 32) (main_arg2 : FVec F S2x512x1024 .bf16) (main_arg3 : FVec F S2x1024x512 .bf16) : IVec S_ 1 :=
  let main_v0 : IVec S1x512 32 := broadcastInDim S1x512 ![1] bcast_S512_S1x512_1 main_arg1
  let main_v1 : IVec S16 32 := iotaInDim S16 32 0
  let main_v2 : IVec S16x1 32 := broadcastInDim S16x1 ![0] bcast_S16_S16x1_0 main_v1
  let main_v3 : IVec S16x512 32 := broadcastInDim S16x512 ![0, 1] bcast_S1x512_S16x512_0_1 main_v0
  let main_v4 : IVec S16x512 32 := broadcastInDim S16x512 ![0, 1] bcast_S16x1_S16x512_0_1 main_v2
  let main_v5 : IVec S16x512 1 := cmpi .eq main_v3 main_v4
  let main_v6 : IVec S16x512 32 := (extui 32 · natLt_1_32) main_v5
  let main_c : IVec S_ 32 := constantI S_ 32 0#32
  let main_v7 : IVec S16 32 := (fun x v => Host.reduce IntOp.addi x v reducesTo_S16x512_S16_d1 h_S_) main_v6 main_c
  let main_c_0 : IVec S_ 32 := constantI S_ 32 48#32
  let main_v8 : IVec S16 32 := broadcastInDim S16 ![] bcast_S_S16 main_c_0
  let main_v9 : IVec S16 1 := cmpi .sle main_v7 main_v8
  let main_c_1 : IVec S_ 1 := constantI S_ 1 1#1
  let main_v10 : IVec S_ 1 := (fun x v => Host.reduce IntOp.andi x v reducesTo_S16_S_d0 h_S_) main_v9 main_c_1
  main_v10
-- ==== Pre_fits_ReferenceIdeal.lean ====
abbrev S4096x512 : Shape := ⟨2, ![4096, 512]⟩
abbrev S4096 : Shape := ⟨1, ![4096]⟩
abbrev S16x512x1024 : Shape := ⟨3, ![16, 512, 1024]⟩
abbrev S16x1024x512 : Shape := ⟨3, ![16, 1024, 512]⟩
abbrev S1x4096 : Shape := ⟨2, ![1, 4096]⟩
abbrev S16 : Shape := ⟨1, ![16]⟩
abbrev S16x1 : Shape := ⟨2, ![16, 1]⟩
abbrev S16x4096 : Shape := ⟨2, ![16, 4096]⟩
abbrev S_ : Shape := ⟨0, ![]⟩

class Facts : Prop where
  bcast_S4096_S1x4096_1 : S4096.BroadcastsInDim S1x4096 (![1] : Fin 1 → Fin S1x4096.rank)
  bcast_S16_S16x1_0 : S16.BroadcastsInDim S16x1 (![0] : Fin 1 → Fin S16x1.rank)
  bcast_S1x4096_S16x4096_0_1 : S1x4096.BroadcastsInDim S16x4096 (![0, 1] : Fin 2 → Fin S16x4096.rank)
  bcast_S16x1_S16x4096_0_1 : S16x1.BroadcastsInDim S16x4096 (![0, 1] : Fin 2 → Fin S16x4096.rank)
  natLt_1_32 : 1 < 32
  reducesTo_S16x4096_S16_d1 : S16x4096.ReducesTo [1] S16
  h_S_ : 0 < S_.numel
  bcast_S_S16 : S_.BroadcastsInDim S16 (![] : Fin 0 → Fin S16.rank)
  reducesTo_S16_S_d0 : S16.ReducesTo [0] S_

variable [Facts]

def fn {F : FTy → Type} [FloatOps F] (main_arg0 : FVec F S4096x512 .bf16) (main_arg1 : IVec S4096 32) (main_arg2 : FVec F S16x512x1024 .bf16) (main_arg3 : FVec F S16x1024x512 .bf16) : IVec S_ 1 :=
  let main_v0 : IVec S1x4096 32 := broadcastInDim S1x4096 ![1] bcast_S4096_S1x4096_1 main_arg1
  let main_v1 : IVec S16 32 := iotaInDim S16 32 0
  let main_v2 : IVec S16x1 32 := broadcastInDim S16x1 ![0] bcast_S16_S16x1_0 main_v1
  let main_v3 : IVec S16x4096 32 := broadcastInDim S16x4096 ![0, 1] bcast_S1x4096_S16x4096_0_1 main_v0
  let main_v4 : IVec S16x4096 32 := broadcastInDim S16x4096 ![0, 1] bcast_S16x1_S16x4096_0_1 main_v2
  let main_v5 : IVec S16x4096 1 := cmpi .eq main_v3 main_v4
  let main_v6 : IVec S16x4096 32 := (extui 32 · natLt_1_32) main_v5
  let main_c : IVec S_ 32 := constantI S_ 32 0#32
  let main_v7 : IVec S16 32 := (fun x v => Host.reduce IntOp.addi x v reducesTo_S16x4096_S16_d1 h_S_) main_v6 main_c
  let main_c_0 : IVec S_ 32 := constantI S_ 32 48#32
  let main_v8 : IVec S16 32 := broadcastInDim S16 ![] bcast_S_S16 main_c_0
  let main_v9 : IVec S16 1 := cmpi .sle main_v7 main_v8
  let main_c_1 : IVec S_ 1 := constantI S_ 1 1#1
  let main_v10 : IVec S_ 1 := (fun x v => Host.reduce IntOp.andi x v reducesTo_S16_S_d0 h_S_) main_v9 main_c_1
  main_v10
-- ==== Kernel.lean ====
abbrev S512x512 : Shape := ⟨2, ![512, 512]⟩
abbrev S512 : Shape := ⟨1, ![512]⟩
abbrev S2x512x1024 : Shape := ⟨3, ![2, 512, 1024]⟩
abbrev S2x1024x512 : Shape := ⟨3, ![2, 1024, 512]⟩
abbrev S768x512 : Shape := ⟨2, ![768, 512]⟩
abbrev S384x512 : Shape := ⟨2, ![384, 512]⟩
abbrev S7 : Shape := ⟨1, ![7]⟩
abbrev S_ : Shape := ⟨0, ![]⟩
abbrev S1x512 : Shape := ⟨2, ![1, 512]⟩
abbrev S16x512 : Shape := ⟨2, ![16, 512]⟩
abbrev S384x16 : Shape := ⟨2, ![384, 16]⟩
abbrev S96x512 : Shape := ⟨2, ![96, 512]⟩
abbrev S1 : Shape := ⟨1, ![1]⟩
abbrev S48x512 : Shape := ⟨2, ![48, 512]⟩
abbrev S288x16 : Shape := ⟨2, ![288, 16]⟩
abbrev S288x512 : Shape := ⟨2, ![288, 512]⟩
abbrev S96x16 : Shape := ⟨2, ![96, 16]⟩
abbrev S192x512 : Shape := ⟨2, ![192, 512]⟩
abbrev S1x512x1024 : Shape := ⟨3, ![1, 512, 1024]⟩
abbrev S512x1024 : Shape := ⟨2, ![512, 1024]⟩
abbrev S192x1024 : Shape := ⟨2, ![192, 1024]⟩
abbrev S1x1024x512 : Shape := ⟨3, ![1, 1024, 512]⟩
abbrev S1024x512 : Shape := ⟨2, ![1024, 512]⟩

abbrev nBuf : Space → Nat
  | .hbm => 5
  | .vmem => 14
  | .smem => 0
  | _ => 0

abbrev bufTy : (tb : Table) → Fin (tcTables nBuf tb) → BufTy
  | .hbm, ⟨0, _⟩ => ⟨S512x512, .bf16⟩
  | .hbm, ⟨1, _⟩ => ⟨S512, .i32⟩
  | .hbm, ⟨2, _⟩ => ⟨S2x512x1024, .bf16⟩
  | .hbm, ⟨3, _⟩ => ⟨S2x1024x512, .bf16⟩
  | .hbm, ⟨4, _⟩ => ⟨S512x512, .f32⟩
  | .local _ .vmem, ⟨0, _⟩ => ⟨S512x512, .bf16⟩
  | .local _ .vmem, ⟨1, _⟩ => ⟨S512, .i32⟩
  | .local _ .vmem, ⟨2, _⟩ => ⟨S2x512x1024, .bf16⟩
  | .local _ .vmem, ⟨3, _⟩ => ⟨S2x1024x512, .bf16⟩
  | .local _ .vmem, ⟨4, _⟩ => ⟨S512x512, .f32⟩
  | .local _ .vmem, ⟨5, _⟩ => ⟨S768x512, .bf16⟩
  | .local _ .vmem, ⟨6, _⟩ => ⟨S768x512, .bf16⟩
  | .local _ .vmem, ⟨7, _⟩ => ⟨S384x512, .bf16⟩
  | .local _ .vmem, ⟨8, _⟩ => ⟨S384x512, .bf16⟩
  | .local _ .vmem, ⟨9, _⟩ => ⟨S384x512, .bf16⟩
  | .local _ .vmem, ⟨10, _⟩ => ⟨S384x512, .bf16⟩
  | .local _ .vmem, ⟨11, _⟩ => ⟨S768x512, .bf16⟩
  | .local _ .vmem, ⟨12, _⟩ => ⟨S2x512x1024, .bf16⟩
  | .local _ .vmem, ⟨13, _⟩ => ⟨S2x1024x512, .bf16⟩
  | _, _ => ⟨S512x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 1 → Bool
  | ⟨0, _⟩ => false
  | _ => false

abbrev dmaSemScoped : Fin 61 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | _ => false

abbrev sig : RefSig :=
  (ofTc nBuf bufTy 1 61 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_scratch3 : Ref sig .tc := ⟨.vmem, 8, rfl⟩
abbrev cc0_scratch4 : Ref sig .tc := ⟨.vmem, 9, rfl⟩
abbrev cc0_scratch5 : Ref sig .tc := ⟨.vmem, 10, rfl⟩
abbrev cc0_scratch6 : Ref sig .tc := ⟨.vmem, 11, rfl⟩
abbrev cc0_scratch7 : Ref sig .tc := ⟨.vmem, 12, rfl⟩
abbrev cc0_scratch8 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.addi v2 c1_i32_0
  let c8_i32_1 : BitVec 32 := 8#32
  let v5 : BitVec 32 := Scalar.remsi v4 c8_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v8 : BitVec 32 := Scalar.addi v2 c2_i32
  let c8_i32_4 : BitVec 32 := 8#32
  let v9 : BitVec 32 := Scalar.remsi v8 c8_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v12 : BitVec 32 := Scalar.addi v2 c3_i32
  let c8_i32_8 : BitVec 32 := 8#32
  let v13 : BitVec 32 := Scalar.remsi v12 c8_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v16 : BitVec 32 := Scalar.addi v2 c4_i32
  let c8_i32_12 : BitVec 32 := 8#32
  let v17 : BitVec 32 := Scalar.remsi v16 c8_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v20 : BitVec 32 := Scalar.addi v2 c5_i32
  let c8_i32_16 : BitVec 32 := 8#32
  let v21 : BitVec 32 := Scalar.remsi v20 c8_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v24 : BitVec 32 := Scalar.addi v2 c6_i32
  let c8_i32_20 : BitVec 32 := 8#32
  let v25 : BitVec 32 := Scalar.remsi v24 c8_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v28 : BitVec 32 := Scalar.addi v2 c7_i32
  let c8_i32_24 : BitVec 32 := 8#32
  let v29 : BitVec 32 := Scalar.remsi v28 c8_i32_24
  let c1_i32_26 : BitVec 32 := 1#32
  let v30 : BitVec 32 := Scalar.muli v29 c1_i32_26
  let v31 : BitVec 32 := Scalar.addi c0_i32_27 v30
  v31.toNat
def k0_dev8 (d0 : Dev nD) : Nat :=
  let c0_i32_67 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_57 : BitVec 32 := 1#32
  let v146 : BitVec 32 := Scalar.addi v2 c1_i32_57
  let c8_i32_58 : BitVec 32 := 8#32
  let v147 : BitVec 32 := Scalar.remsi v146 c8_i32_58
  let c1_i32_66 : BitVec 32 := 1#32
  let v154 : BitVec 32 := Scalar.muli v147 c1_i32_66
  let v155 : BitVec 32 := Scalar.addi c0_i32_67 v154
  v155.toNat
def k0_dev9 (d0 : Dev nD) : Nat :=
  let c0_i32_74 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_57 : BitVec 32 := 1#32
  let v146 : BitVec 32 := Scalar.addi v2 c1_i32_57
  let c8_i32_58 : BitVec 32 := 8#32
  let v147 : BitVec 32 := Scalar.remsi v146 c8_i32_58
  let c1_i32_73 : BitVec 32 := 1#32
  let v162 : BitVec 32 := Scalar.muli v147 c1_i32_73
  let v163 : BitVec 32 := Scalar.addi c0_i32_74 v162
  v163.toNat
def k0_dev10 (d0 : Dev nD) : Nat :=
  let c0_i32_87 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_78 : BitVec 32 := 2#32
  let v170 : BitVec 32 := Scalar.addi v2 c2_i32_78
  let c8_i32_79 : BitVec 32 := 8#32
  let v171 : BitVec 32 := Scalar.remsi v170 c8_i32_79
  let c1_i32_86 : BitVec 32 := 1#32
  let v178 : BitVec 32 := Scalar.muli v171 c1_i32_86
  let v179 : BitVec 32 := Scalar.addi c0_i32_87 v178
  v179.toNat
def k0_dev11 (d0 : Dev nD) : Nat :=
  let c0_i32_93 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_78 : BitVec 32 := 2#32
  let v170 : BitVec 32 := Scalar.addi v2 c2_i32_78
  let c8_i32_79 : BitVec 32 := 8#32
  let v171 : BitVec 32 := Scalar.remsi v170 c8_i32_79
  let c1_i32_92 : BitVec 32 := 1#32
  let v186 : BitVec 32 := Scalar.muli v171 c1_i32_92
  let v187 : BitVec 32 := Scalar.addi c0_i32_93 v186
  v187.toNat
def k0_dev12 (d0 : Dev nD) : Nat :=
  let c0_i32_107 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_98 : BitVec 32 := 3#32
  let v194 : BitVec 32 := Scalar.addi v2 c3_i32_98
  let c8_i32_99 : BitVec 32 := 8#32
  let v195 : BitVec 32 := Scalar.remsi v194 c8_i32_99
  let c1_i32_106 : BitVec 32 := 1#32
  let v202 : BitVec 32 := Scalar.muli v195 c1_i32_106
  let v203 : BitVec 32 := Scalar.addi c0_i32_107 v202
  v203.toNat
def k0_dev13 (d0 : Dev nD) : Nat :=
  let c0_i32_115 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_98 : BitVec 32 := 3#32
  let v194 : BitVec 32 := Scalar.addi v2 c3_i32_98
  let c8_i32_99 : BitVec 32 := 8#32
  let v195 : BitVec 32 := Scalar.remsi v194 c8_i32_99
  let c1_i32_114 : BitVec 32 := 1#32
  let v210 : BitVec 32 := Scalar.muli v195 c1_i32_114
  let v211 : BitVec 32 := Scalar.addi c0_i32_115 v210
  v211.toNat
def k0_dev14 (d0 : Dev nD) : Nat :=
  let c0_i32_128 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_119 : BitVec 32 := 4#32
  let v218 : BitVec 32 := Scalar.addi v2 c4_i32_119
  let c8_i32_120 : BitVec 32 := 8#32
  let v219 : BitVec 32 := Scalar.remsi v218 c8_i32_120
  let c1_i32_127 : BitVec 32 := 1#32
  let v226 : BitVec 32 := Scalar.muli v219 c1_i32_127
  let v227 : BitVec 32 := Scalar.addi c0_i32_128 v226
  v227.toNat
def k0_dev15 (d0 : Dev nD) : Nat :=
  let c0_i32_135 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_119 : BitVec 32 := 4#32
  let v218 : BitVec 32 := Scalar.addi v2 c4_i32_119
  let c8_i32_120 : BitVec 32 := 8#32
  let v219 : BitVec 32 := Scalar.remsi v218 c8_i32_120
  let c1_i32_134 : BitVec 32 := 1#32
  let v234 : BitVec 32 := Scalar.muli v219 c1_i32_134
  let v235 : BitVec 32 := Scalar.addi c0_i32_135 v234
  v235.toNat
def k0_dev16 (d0 : Dev nD) : Nat :=
  let c0_i32_175 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_165 : BitVec 32 := 5#32
  let v334 : BitVec 32 := Scalar.addi v2 c5_i32_165
  let c8_i32_166 : BitVec 32 := 8#32
  let v335 : BitVec 32 := Scalar.remsi v334 c8_i32_166
  let c1_i32_174 : BitVec 32 := 1#32
  let v342 : BitVec 32 := Scalar.muli v335 c1_i32_174
  let v343 : BitVec 32 := Scalar.addi c0_i32_175 v342
  v343.toNat
def k0_dev17 (d0 : Dev nD) : Nat :=
  let c0_i32_183 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_165 : BitVec 32 := 5#32
  let v334 : BitVec 32 := Scalar.addi v2 c5_i32_165
  let c8_i32_166 : BitVec 32 := 8#32
  let v335 : BitVec 32 := Scalar.remsi v334 c8_i32_166
  let c1_i32_182 : BitVec 32 := 1#32
  let v350 : BitVec 32 := Scalar.muli v335 c1_i32_182
  let v351 : BitVec 32 := Scalar.addi c0_i32_183 v350
  v351.toNat
def k0_dev18 (d0 : Dev nD) : Nat :=
  let c0_i32_196 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_187 : BitVec 32 := 6#32
  let v358 : BitVec 32 := Scalar.addi v2 c6_i32_187
  let c8_i32_188 : BitVec 32 := 8#32
  let v359 : BitVec 32 := Scalar.remsi v358 c8_i32_188
  let c1_i32_195 : BitVec 32 := 1#32
  let v366 : BitVec 32 := Scalar.muli v359 c1_i32_195
  let v367 : BitVec 32 := Scalar.addi c0_i32_196 v366
  v367.toNat
def k0_dev19 (d0 : Dev nD) : Nat :=
  let c0_i32_203 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_187 : BitVec 32 := 6#32
  let v358 : BitVec 32 := Scalar.addi v2 c6_i32_187
  let c8_i32_188 : BitVec 32 := 8#32
  let v359 : BitVec 32 := Scalar.remsi v358 c8_i32_188
  let c1_i32_202 : BitVec 32 := 1#32
  let v374 : BitVec 32 := Scalar.muli v359 c1_i32_202
  let v375 : BitVec 32 := Scalar.addi c0_i32_203 v374
  v375.toNat
def k0_dev20 (d0 : Dev nD) : Nat :=
  let c0_i32_216 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_207 : BitVec 32 := 7#32
  let v382 : BitVec 32 := Scalar.addi v2 c7_i32_207
  let c8_i32_208 : BitVec 32 := 8#32
  let v383 : BitVec 32 := Scalar.remsi v382 c8_i32_208
  let c1_i32_215 : BitVec 32 := 1#32
  let v390 : BitVec 32 := Scalar.muli v383 c1_i32_215
  let v391 : BitVec 32 := Scalar.addi c0_i32_216 v390
  v391.toNat
def k0_dev21 (d0 : Dev nD) : Nat :=
  let c0_i32_223 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_207 : BitVec 32 := 7#32
  let v382 : BitVec 32 := Scalar.addi v2 c7_i32_207
  let c8_i32_208 : BitVec 32 := 8#32
  let v383 : BitVec 32 := Scalar.remsi v382 c8_i32_208
  let c1_i32_222 : BitVec 32 := 1#32
  let v398 : BitVec 32 := Scalar.muli v383 c1_i32_222
  let v399 : BitVec 32 := Scalar.addi c0_i32_223 v398
  v399.toNat
def k0_dev22 (d0 : Dev nD) : Nat :=
  let c0_i32_367 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_362 : BitVec 32 := 1#32
  let v595 : BitVec 32 := Scalar.addi v2 c1_i32_362
  let c8_i32_363 : BitVec 32 := 8#32
  let v596 : BitVec 32 := Scalar.remsi v595 c8_i32_363
  let c1_i32_366 : BitVec 32 := 1#32
  let v597 : BitVec 32 := Scalar.muli v596 c1_i32_366
  let v598 : BitVec 32 := Scalar.addi c0_i32_367 v597
  v598.toNat
def k0_dev23 (d0 : Dev nD) : Nat :=
  let c0_i32_375 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_362 : BitVec 32 := 1#32
  let v595 : BitVec 32 := Scalar.addi v2 c1_i32_362
  let c8_i32_363 : BitVec 32 := 8#32
  let v596 : BitVec 32 := Scalar.remsi v595 c8_i32_363
  let c1_i32_374 : BitVec 32 := 1#32
  let v605 : BitVec 32 := Scalar.muli v596 c1_i32_374
  let v606 : BitVec 32 := Scalar.addi c0_i32_375 v605
  v606.toNat
def k0_dev24 (d0 : Dev nD) : Nat :=
  let c0_i32_385 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_380 : BitVec 32 := 2#32
  let v613 : BitVec 32 := Scalar.addi v2 c2_i32_380
  let c8_i32_381 : BitVec 32 := 8#32
  let v614 : BitVec 32 := Scalar.remsi v613 c8_i32_381
  let c1_i32_384 : BitVec 32 := 1#32
  let v615 : BitVec 32 := Scalar.muli v614 c1_i32_384
  let v616 : BitVec 32 := Scalar.addi c0_i32_385 v615
  v616.toNat
def k0_dev25 (d0 : Dev nD) : Nat :=
  let c0_i32_393 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_380 : BitVec 32 := 2#32
  let v613 : BitVec 32 := Scalar.addi v2 c2_i32_380
  let c8_i32_381 : BitVec 32 := 8#32
  let v614 : BitVec 32 := Scalar.remsi v613 c8_i32_381
  let c1_i32_392 : BitVec 32 := 1#32
  let v623 : BitVec 32 := Scalar.muli v614 c1_i32_392
  let v624 : BitVec 32 := Scalar.addi c0_i32_393 v623
  v624.toNat
def k0_dev26 (d0 : Dev nD) : Nat :=
  let c0_i32_403 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_398 : BitVec 32 := 3#32
  let v631 : BitVec 32 := Scalar.addi v2 c3_i32_398
  let c8_i32_399 : BitVec 32 := 8#32
  let v632 : BitVec 32 := Scalar.remsi v631 c8_i32_399
  let c1_i32_402 : BitVec 32 := 1#32
  let v633 : BitVec 32 := Scalar.muli v632 c1_i32_402
  let v634 : BitVec 32 := Scalar.addi c0_i32_403 v633
  v634.toNat
def k0_dev27 (d0 : Dev nD) : Nat :=
  let c0_i32_411 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_398 : BitVec 32 := 3#32
  let v631 : BitVec 32 := Scalar.addi v2 c3_i32_398
  let c8_i32_399 : BitVec 32 := 8#32
  let v632 : BitVec 32 := Scalar.remsi v631 c8_i32_399
  let c1_i32_410 : BitVec 32 := 1#32
  let v641 : BitVec 32 := Scalar.muli v632 c1_i32_410
  let v642 : BitVec 32 := Scalar.addi c0_i32_411 v641
  v642.toNat
def k0_dev28 (d0 : Dev nD) : Nat :=
  let c0_i32_421 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_416 : BitVec 32 := 4#32
  let v649 : BitVec 32 := Scalar.addi v2 c4_i32_416
  let c8_i32_417 : BitVec 32 := 8#32
  let v650 : BitVec 32 := Scalar.remsi v649 c8_i32_417
  let c1_i32_420 : BitVec 32 := 1#32
  let v651 : BitVec 32 := Scalar.muli v650 c1_i32_420
  let v652 : BitVec 32 := Scalar.addi c0_i32_421 v651
  v652.toNat
def k0_dev29 (d0 : Dev nD) : Nat :=
  let c0_i32_429 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_416 : BitVec 32 := 4#32
  let v649 : BitVec 32 := Scalar.addi v2 c4_i32_416
  let c8_i32_417 : BitVec 32 := 8#32
  let v650 : BitVec 32 := Scalar.remsi v649 c8_i32_417
  let c1_i32_428 : BitVec 32 := 1#32
  let v659 : BitVec 32 := Scalar.muli v650 c1_i32_428
  let v660 : BitVec 32 := Scalar.addi c0_i32_429 v659
  v660.toNat
def k0_dev30 (d0 : Dev nD) : Nat :=
  let c0_i32_513 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_508 : BitVec 32 := 5#32
  let v731 : BitVec 32 := Scalar.addi v2 c5_i32_508
  let c8_i32_509 : BitVec 32 := 8#32
  let v732 : BitVec 32 := Scalar.remsi v731 c8_i32_509
  let c1_i32_512 : BitVec 32 := 1#32
  let v733 : BitVec 32 := Scalar.muli v732 c1_i32_512
  let v734 : BitVec 32 := Scalar.addi c0_i32_513 v733
  v734.toNat
def k0_dev31 (d0 : Dev nD) : Nat :=
  let c0_i32_521 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_508 : BitVec 32 := 5#32
  let v731 : BitVec 32 := Scalar.addi v2 c5_i32_508
  let c8_i32_509 : BitVec 32 := 8#32
  let v732 : BitVec 32 := Scalar.remsi v731 c8_i32_509
  let c1_i32_520 : BitVec 32 := 1#32
  let v741 : BitVec 32 := Scalar.muli v732 c1_i32_520
  let v742 : BitVec 32 := Scalar.addi c0_i32_521 v741
  v742.toNat
def k0_dev32 (d0 : Dev nD) : Nat :=
  let c0_i32_531 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_526 : BitVec 32 := 6#32
  let v749 : BitVec 32 := Scalar.addi v2 c6_i32_526
  let c8_i32_527 : BitVec 32 := 8#32
  let v750 : BitVec 32 := Scalar.remsi v749 c8_i32_527
  let c1_i32_530 : BitVec 32 := 1#32
  let v751 : BitVec 32 := Scalar.muli v750 c1_i32_530
  let v752 : BitVec 32 := Scalar.addi c0_i32_531 v751
  v752.toNat
def k0_dev33 (d0 : Dev nD) : Nat :=
  let c0_i32_539 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_526 : BitVec 32 := 6#32
  let v749 : BitVec 32 := Scalar.addi v2 c6_i32_526
  let c8_i32_527 : BitVec 32 := 8#32
  let v750 : BitVec 32 := Scalar.remsi v749 c8_i32_527
  let c1_i32_538 : BitVec 32 := 1#32
  let v759 : BitVec 32 := Scalar.muli v750 c1_i32_538
  let v760 : BitVec 32 := Scalar.addi c0_i32_539 v759
  v760.toNat
def k0_dev34 (d0 : Dev nD) : Nat :=
  let c0_i32_549 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_544 : BitVec 32 := 7#32
  let v767 : BitVec 32 := Scalar.addi v2 c7_i32_544
  let c8_i32_545 : BitVec 32 := 8#32
  let v768 : BitVec 32 := Scalar.remsi v767 c8_i32_545
  let c1_i32_548 : BitVec 32 := 1#32
  let v769 : BitVec 32 := Scalar.muli v768 c1_i32_548
  let v770 : BitVec 32 := Scalar.addi c0_i32_549 v769
  v770.toNat
def k0_dev35 (d0 : Dev nD) : Nat :=
  let c0_i32_557 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_544 : BitVec 32 := 7#32
  let v767 : BitVec 32 := Scalar.addi v2 c7_i32_544
  let c8_i32_545 : BitVec 32 := 8#32
  let v768 : BitVec 32 := Scalar.remsi v767 c8_i32_545
  let c1_i32_556 : BitVec 32 := 1#32
  let v777 : BitVec 32 := Scalar.muli v768 c1_i32_556
  let v778 : BitVec 32 := Scalar.addi c0_i32_557 v777
  v778.toNat
abbrev stage0_0 : Fin 1 → Memref sig .tc .vmem S512x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x1024x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S4096x512 : Shape := ⟨2, ![4096, 512]⟩
abbrev S4096 : Shape := ⟨1, ![4096]⟩
abbrev S16x512x1024 : Shape := ⟨3, ![16, 512, 1024]⟩
abbrev S16x1024x512 : Shape := ⟨3, ![16, 1024, 512]⟩
abbrev S16x1024x4096 : Shape := ⟨3, ![16, 1024, 4096]⟩
abbrev S16x4096x1024 : Shape := ⟨3, ![16, 4096, 1024]⟩
abbrev S_ : Shape := ⟨0, ![]⟩
abbrev S16x4096x512 : Shape := ⟨3, ![16, 4096, 512]⟩
abbrev S1x4096 : Shape := ⟨2, ![1, 4096]⟩
abbrev S16 : Shape := ⟨1, ![16]⟩
abbrev S16x1 : Shape := ⟨2, ![16, 1]⟩
abbrev S16x4096 : Shape := ⟨2, ![16, 4096]⟩
abbrev S16x4096x1 : Shape := ⟨3, ![16, 4096, 1]⟩

abbrev nBuf : Space → Nat
  | .hbm => 27
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S4096, .i32⟩
  | .hbm, ⟨2, _⟩ => ⟨S16x512x1024, .bf16⟩
  | .hbm, ⟨3, _⟩ => ⟨S16x1024x512, .bf16⟩
  | .hbm, ⟨4, _⟩ => ⟨S4096x512, .f32⟩
  | .hbm, ⟨5, _⟩ => ⟨S16x512x1024, .f32⟩
  | .hbm, ⟨6, _⟩ => ⟨S16x1024x512, .f32⟩
  | .hbm, ⟨7, _⟩ => ⟨S16x1024x4096, .f32⟩
  | .hbm, ⟨8, _⟩ => ⟨S16x4096x1024, .f32⟩
  | .hbm, ⟨9, _⟩ => ⟨S_, .f32⟩
  | .hbm, ⟨10, _⟩ => ⟨S16x4096x1024, .f32⟩
  | .hbm, ⟨11, _⟩ => ⟨S16x4096x1024, .f32⟩
  | .hbm, ⟨12, _⟩ => ⟨S16x4096x512, .f32⟩
  | .hbm, ⟨13, _⟩ => ⟨S1x4096, .i32⟩
  | .hbm, ⟨14, _⟩ => ⟨S16, .i32⟩
  | .hbm, ⟨15, _⟩ => ⟨S16x1, .i32⟩
  | .hbm, ⟨16, _⟩ => ⟨S16x4096, .i32⟩
  | .hbm, ⟨17, _⟩ => ⟨S16x4096, .i32⟩
  | .hbm, ⟨18, _⟩ => ⟨S16x4096, .i1⟩
  | .hbm, ⟨19, _⟩ => ⟨S16x4096x1, .i1⟩
  | .hbm, ⟨20, _⟩ => ⟨S_, .f32⟩
  | .hbm, ⟨21, _⟩ => ⟨S_, .f32⟩
  | .hbm, ⟨22, _⟩ => ⟨S16x4096x512, .i1⟩
  | .hbm, ⟨23, _⟩ => ⟨S16x4096x512, .f32⟩
  | .hbm, ⟨24, _⟩ => ⟨S16x4096x512, .f32⟩
  | .hbm, ⟨25, _⟩ => ⟨S_, .f32⟩
  | .hbm, ⟨26, _⟩ => ⟨S4096x512, .f32⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_0 : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_v15 : Ref sig .tc := ⟨.hbm, 24, rfl⟩
abbrev main_cst_1 : Ref sig .tc := ⟨.hbm, 25, rfl⟩
abbrev main_v16 : Ref sig .tc := ⟨.hbm, 26, rfl⟩

abbrev nD : Nat := 1
abbrev τ : Topo := Topo.v7x

variable {F : FTy → Type} [FloatOps F]
-- ==== Proof.Rows.lean ====
/-
# Blocks of rows

A buffer of `R` rows of `C` elements, cut into blocks of consecutive rows: the set of a block's elements, how the
unit-stride rectangles of whole rows name such blocks, contents given row by row, and how a buffer held block by
block is split and joined.
-/
module

public import Idealize.ShloMosaic.Lib.Pipeline.Launch
public import Idealize.ShloMosaic.Lib.Pipeline.Kit
public import Idealize.ShloMosaic.Lib.Tactic
public import Idealize.ShloMosaic.Lib.ValueIdxCore

@[expose] public section

noncomputable section

namespace Cert.Rows

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.ValueIdx (ix2 eq_ix2)

/-- The elements of the rows `lo, …, hi - 1`. -/
def rows (R C lo hi : ℕ) : Finset (⟨2, ![R, C]⟩ : Shape).Idx :=
  Finset.univ.filter fun i => lo ≤ (i 0).val ∧ (i 0).val < hi

theorem mem_rows {R C lo hi : ℕ} {i : (⟨2, ![R, C]⟩ : Shape).Idx} : i ∈ rows R C lo hi ↔ lo ≤ (i 0).val ∧ (i 0).val < hi := by
  unfold rows; rw [Finset.mem_filter]; exact ⟨fun h => h.2, fun h => ⟨Finset.mem_univ _, h⟩⟩

/-- The rectangle of `n` whole rows from row `lo` on has the elements of these rows. -/
theorem unit_rows {R C lo n : ℕ} (inb) : (Rect.unit (s := ⟨2, ![R, C]⟩) ![lo, 0] ![n, C] inb).set = rows R C lo (lo + n) := by
  ext i
  rw [Rect.mem_set_unit, mem_rows]
  refine ⟨fun h => h 0, fun h => Fin.forall_fin_two.mpr ⟨h, Nat.zero_le _, ?_⟩⟩
  exact (i 1).isLt.trans_le (Nat.le_add_left _ _)

theorem rows_univ {R C : ℕ} : rows R C 0 R = Finset.univ := by
  ext i
  rw [mem_rows]
  exact ⟨fun _ => Finset.mem_univ _, fun _ => ⟨Nat.zero_le _, (i 0).isLt⟩⟩

theorem rows_union {R C a b c : ℕ} (h : a ≤ b) (h' : b ≤ c) : rows R C a c = rows R C a b ∪ rows R C b c := by
  ext i
  rw [Finset.mem_union, mem_rows, mem_rows, mem_rows]; omega

theorem rows_disjoint {R C a b c d : ℕ} (h : b ≤ c) : Disjoint (rows R C a b) (rows R C c d) := by
  rw [Finset.disjoint_left]; intro i hi hj
  rw [mem_rows] at hi hj; omega

theorem rows_subset {R C a b c d : ℕ} (h : c ≤ a) (h' : b ≤ d) : rows R C a b ⊆ rows R C c d := by
  intro i hi; rw [mem_rows] at hi ⊢; omega

/-- Contents given row by row. -/
def byRow {R C : ℕ} {α : Type} (G : ℕ → Fin C → α) : (⟨2, ![R, C]⟩ : Shape).Idx → α := fun i => G (i 0).val (i 1)

/-- The rows of an array of `n` rows (counted cyclically past the last). -/
def rowOf {n C : ℕ} {α : Type} (hn : 0 < n) (w : (⟨2, ![n, C]⟩ : Shape).Idx → α) : ℕ → Fin C → α :=
  fun r k => w (ix2 ⟨r % n, Nat.mod_lt _ hn⟩ k)

theorem rowOf_val {n C : ℕ} {α : Type} (hn : 0 < n) (w : (⟨2, ![n, C]⟩ : Shape).Idx → α) (x : (⟨2, ![n, C]⟩ : Shape).Idx) :
    rowOf hn w (x 0).val (x 1) = w x := by
  unfold rowOf
  conv_rhs => rw [eq_ix2 x]
  have h : (⟨(x 0).val % n, Nat.mod_lt _ hn⟩ : Fin n) = x 0 := Fin.ext (Nat.mod_eq_of_lt (x 0).isLt)
  exact congrArg (fun a => w (ix2 a (x 1))) h

/-- Contents given row by row, read at an index of a block of whole rows. -/
theorem byRow_emb {R C lo n : ℕ} {α : Type} (inb) (G : ℕ → Fin C → α) (x : (Rect.unit (s := ⟨2, ![R, C]⟩) ![lo, 0] ![n, C] inb).shape.Idx) :
    byRow G ((Rect.unit (s := ⟨2, ![R, C]⟩) ![lo, 0] ![n, C] inb).emb x) = G (lo + (x 0).val) (x 1) := by
  unfold byRow
  have h0 : ((Rect.unit (s := ⟨2, ![R, C]⟩) ![lo, 0] ![n, C] inb).emb x 0).val = lo + (x 0).val := by
    rw [Rect.emb_apply]; show lo + 1 * (x 0).val = _; rw [Nat.one_mul]
  have h1 : (Rect.unit (s := ⟨2, ![R, C]⟩) ![lo, 0] ![n, C] inb).emb x 1 = (x 1 : Fin C) :=
    Fin.ext (by
    rw [Rect.emb_apply]; show 0 + 1 * (x 1).val = _; rw [Nat.one_mul, Nat.zero_add])
  rw [h0, h1]

/-- The block of `n` rows from row `lo` on of contents given row by row. -/
def block {C : ℕ} {α : Type} (n lo : ℕ) (G : ℕ → Fin C → α) : (⟨2, ![n, C]⟩ : Shape).Idx → α := fun x => G (lo + (x 0).val) (x 1)

theorem rowOf_block {C n : ℕ} {α : Type} (hn : 0 < n) (lo : ℕ) (G : ℕ → Fin C → α) (r : ℕ) (k : Fin C) :
    rowOf hn (block n lo G) r k = G (lo + r % n) k := rfl

/-! ## Blocks of rows of a buffer, held -/

section Held

variable {nD : Nat} {τ : Topo} {sig : RefSig} {Ix : Type} [DecidableEq Ix]
variable {Val : EltTy → Type} {Name : Type} [DecidableEq Name] {U : Type} [URA U] {Lvl : Type}

local notation "𝕄" => MT nD τ sig Ix Val Name U Lvl

variable {R C : ℕ} {e : EltTy} (b : Memref sig .tc .vmem ⟨2, ![R, C]⟩ e) (c : Dev nD)

/-- The rows `lo, …, hi - 1` of a buffer of device `c`, held at some contents. -/
def some (lo hi : ℕ) : sProp 𝕄 :=
  iprop(∃ f : Buf Val (b.view.loc (c.tc : Thread nD τ)), b.view.loc (c.tc : Thread nD τ) ↦[b.view.setOn (rows R C lo hi)]{fullShare} f)

/-- The same at contents whose row `r` is `G r`. -/
def hold (lo hi : ℕ) (G : ℕ → Fin C → Val e) : sProp 𝕄 :=
  iprop(∃ f : Buf Val (b.view.loc (c.tc : Thread nD τ)), (b.view.loc (c.tc : Thread nD τ) ↦[b.view.setOn (rows R C lo hi)]{fullShare} f)
    ∗ ⌜∀ x : (⟨2, ![R, C]⟩ : Shape).Idx, x ∈ rows R C lo hi → b.view.read Val f x = G (x 0).val (x 1)⌝)

instance some_storable [Preorder Lvl] (lo hi : ℕ) : BI.Storable (upEmb : UEmb _ 𝕄) (some (τ := τ) b c lo hi) := by unfold some; infer_instance
instance hold_storable [Preorder Lvl] (lo hi : ℕ) (G : ℕ → Fin C → Val e) : BI.Storable (upEmb : UEmb _ 𝕄) (hold (τ := τ) b c lo hi G) := by
  unfold hold; infer_instance

variable {b c} {lo mid hi : ℕ} {G G' : ℕ → Fin C → Val e}

theorem hold_to_some : (hold (τ := τ) b c lo hi G : sProp 𝕄) ⊢ some b c lo hi := by
  unfold hold some; iintro ⟨%f, H, -⟩; iexists f; iexact H

theorem hold_congr (h : ∀ r, lo ≤ r → r < hi → G r = G' r) : (hold (τ := τ) b c lo hi G : sProp 𝕄) ⊢ hold b c lo hi G' := by
  unfold hold; iintro ⟨%f, H, %hf⟩; iexists f
  isplitl [H]; · iexact H
  ipureintro; intro x hx
  rw [hf x hx, h _ (mem_rows.mp hx).1 (mem_rows.mp hx).2]

theorem setOn_union (h : lo ≤ mid) (h' : mid ≤ hi) : b.view.setOn (rows R C lo hi) = b.view.setOn (rows R C lo mid) ∪ b.view.setOn (rows R C mid hi) := by
  unfold View.setOn; rw [rows_union h h', Finset.map_union]

theorem setOn_disjoint : Disjoint (b.view.setOn (rows R C lo mid)) (b.view.setOn (rows R C mid hi)) := by
  unfold View.setOn; exact (Finset.disjoint_map _).mpr (rows_disjoint le_rfl)

theorem some_split (h : lo ≤ mid) (h' : mid ≤ hi) : (some (τ := τ) b c lo hi : sProp 𝕄) ⊢ iprop(some b c lo mid ∗ some b c mid hi) := by
  unfold some
  iintro ⟨%f, H⟩
  ihave H2 := (Entails.of_eq (congrArg (fun S => (b.view.loc (c.tc : Thread nD τ) ↦[S]{fullShare} f : sProp 𝕄)) (setOn_union h h')) |>.trans (pointsTo_union setOn_disjoint).1) $$ H
  icases H2 with ⟨H1, H2⟩
  isplitl [H1]
  · iexists f; iexact H1
  · iexists f; iexact H2

theorem some_join (h : lo ≤ mid) (h' : mid ≤ hi) : iprop(some (τ := τ) b c lo mid ∗ some b c mid hi) ⊢ (some b c lo hi : sProp 𝕄) := by
  unfold some
  rw [setOn_union h h']
  iintro ⟨⟨%f, Hf⟩, ⟨%g, Hg⟩⟩
  iexists (b.view.setOn (rows R C mid hi)).piecewise g f
  iapply (pointsTo_join setOn_disjoint)
  isplitl [Hf] <;> iassumption

theorem hold_split (h : lo ≤ mid) (h' : mid ≤ hi) : (hold (τ := τ) b c lo hi G : sProp 𝕄) ⊢ iprop(hold b c lo mid G ∗ hold b c mid hi G) := by
  unfold hold
  iintro ⟨%f, H, %hf⟩
  ihave H2 := (Entails.of_eq (congrArg (fun S => (b.view.loc (c.tc : Thread nD τ) ↦[S]{fullShare} f : sProp 𝕄)) (setOn_union h h')) |>.trans (pointsTo_union setOn_disjoint).1) $$ H
  icases H2 with ⟨H1, H2⟩
  isplitl [H1]
  · iexists f
    isplitl [H1]; · iexact H1
    ipureintro; intro x hx; exact hf x (rows_subset le_rfl h' hx)
  · iexists f
    isplitl [H2]; · iexact H2
    ipureintro; intro x hx; exact hf x (rows_subset h le_rfl hx)

theorem hold_join (h : lo ≤ mid) (h' : mid ≤ hi) : iprop(hold (τ := τ) b c lo mid G ∗ hold b c mid hi G) ⊢ (hold b c lo hi G : sProp 𝕄) := by
  unfold hold
  rw [setOn_union h h']
  iintro ⟨⟨%f, Hf, %hf⟩, ⟨%g, Hg, %hg⟩⟩
  iexists (b.view.setOn (rows R C mid hi)).piecewise g f
  isplitl [Hf Hg]
  · iapply (pointsTo_join setOn_disjoint)
    isplitl [Hf] <;> iassumption
  · ipureintro; intro x hx
    by_cases hm : x ∈ rows R C mid hi
    · rw [← hg x hm]
      exact View.read_congr_at x (Finset.piecewise_eq_of_mem _ _ _ (b.view.mem_setOn.mpr hm))
    · have hl : x ∈ rows R C lo mid := by rw [mem_rows] at hx hm ⊢; omega
      rw [← hf x hl]
      exact View.read_congr_at x (Finset.piecewise_eq_of_notMem _ _ _ (fun h => hm (b.view.mem_setOn.mp h)))

/-- All the rows of a whole buffer are the buffer. -/
theorem some_all (hb : b.view.set = Finset.univ) :
    (some (τ := τ) b c 0 R : sProp 𝕄) = iprop(∃ f : Buf Val (b.view.loc (c.tc : Thread nD τ)), b.view.loc (c.tc : Thread nD τ) ↦[Finset.univ]{fullShare} f) := by
  unfold some; rw [rows_univ, View.setOn_univ, hb]

end Held

/-! ## Loads, stores and transfers of blocks of rows -/

section Steps

variable {nD : Nat} {τ : Topo} {sig : RefSig} {Ix : Type} [DecidableEq Ix]
variable {Val : EltTy → Type} {Name : Type} [DecidableEq Name] {U : Type} [URA U] {Lvl : Type} [Preorder Lvl]
variable {Λ : Labels} {defs : Defs nD τ sig Val Λ} {𝒱 : Variants} {bd : Option 𝒱.V} {E : Set Name}

local notation "𝕄" => MT nD τ sig Ix Val Name U Lvl

variable {R C n lo a d : ℕ} {e : EltTy} {b : Memref sig .tc .vmem ⟨2, ![R, C]⟩ e} {c : Dev nD} {G : ℕ → Fin C → Val e}
variable {inb : ∀ i, (![lo, 0] : Fin 2 → ℕ) i + (![n, C] : Fin 2 → ℕ) i ≤ (⟨2, ![R, C]⟩ : Shape).size i}
variable {α : Type} {Q : α → sProp (MT nD τ sig Ix Val Name U Lvl)}

/-- The block of rows of a buffer from row `lo` on. -/
abbrev rect (R C n lo : ℕ) (inb : ∀ i, (![lo, 0] : Fin 2 → ℕ) i + (![n, C] : Fin 2 → ℕ) i ≤ (⟨2, ![R, C]⟩ : Shape).size i) : Rect (⟨2, ![R, C]⟩ : Shape) :=
  Rect.unit (s := ⟨2, ![R, C]⟩) ![lo, 0] ![n, C] inb

theorem emb_mem (x : (rect R C n lo inb).shape.Idx) : (rect R C n lo inb).emb x ∈ rows R C lo (lo + n) := by
  rw [← unit_rows inb, ← Rect.map_emb_univ]; exact Finset.mem_map_of_mem _ (Finset.mem_univ x)

/-- Contents by rows, read through a block of rows. -/
theorem read_rect (h0 : a ≤ lo) (h1 : lo + n ≤ d) {f : b.view.ty.Contents Val}
    (hf : ∀ x : (⟨2, ![R, C]⟩ : Shape).Idx, x ∈ rows R C a d → b.view.read Val f x = G (x 0).val (x 1)) :
    (b.view.slice (rect R C n lo inb)).read Val f = block n lo G := by
  funext x
  refine (hf ((rect R C n lo inb).emb x) (rows_subset h0 h1 (emb_mem x))).trans ?_
  exact byRow_emb inb G x

/-- A load of a block of rows out of rows held. -/
theorem wp_load_rows {hl : b.view.LoadsAt (rect R C n lo inb).toLoadRect} {k : ((rect R C n lo inb).toLoadRect.shape.Idx → Val e) → Prog (TpuEff nD τ sig Val Λ .tc) α}
    (h0 : a ≤ lo) (h1 : lo + n ≤ d) :
    (hold b c a d G : sProp 𝕄)
      ⊢ iprop((hold b c a d G -∗ wp frame (wpE defs 𝒱 (c.tc : Thread nD τ) bd) E (k (block n lo G)) Q)
        -∗ wp frame (wpE defs 𝒱 (c.tc : Thread nD τ) bd) E (.op (.load b (rect R C n lo inb).toLoadRect hl) k) Q) := by
  unfold hold
  iintro ⟨%f, H, %hf⟩ Hk
  iapply (wp_load 𝒱 (c.tc : Thread nD τ) bd E (m := b) (r := (rect R C n lo inb).toLoadRect) (S := b.view.setOn (rows R C a d)) (f := f)
    (Finset.map_subset_map.mpr (by show (rect R C n lo inb).set ⊆ _; rw [unit_rows inb]; exact rows_subset h0 h1))) $$ [H]
  · iexact H
  iintro H
  rw [show b.view.readAt Val (rect R C n lo inb).toLoadRect f = block n lo G from read_rect h0 h1 hf]
  iapply Hk
  iexists f
  isplitl [H]; · iexact H
  ipureintro; exact hf

/-- A load whose value is not used, of a block of rows held at some contents. -/
theorem wp_load_some {hl : b.view.LoadsAt (rect R C n lo inb).toLoadRect} {k : ((rect R C n lo inb).toLoadRect.shape.Idx → Val e) → Prog (TpuEff nD τ sig Val Λ .tc) α}
    (h0 : a ≤ lo) (h1 : lo + n ≤ d) :
    (some b c a d : sProp 𝕄)
      ⊢ iprop((∀ w, some b c a d -∗ wp frame (wpE defs 𝒱 (c.tc : Thread nD τ) bd) E (k w) Q)
        -∗ wp frame (wpE defs 𝒱 (c.tc : Thread nD τ) bd) E (.op (.load b (rect R C n lo inb).toLoadRect hl) k) Q) := by
  unfold some
  iintro ⟨%f, H⟩ Hk
  iapply (wp_load 𝒱 (c.tc : Thread nD τ) bd E (m := b) (r := (rect R C n lo inb).toLoadRect) (S := b.view.setOn (rows R C a d)) (f := f)
    (Finset.map_subset_map.mpr (by show (rect R C n lo inb).set ⊆ _; rw [unit_rows inb]; exact rows_subset h0 h1))) $$ [H]
  · iexact H
  iintro H
  iapply Hk
  iexists f
  iexact H

theorem set_rect : (b.access (rect R C n lo inb)).set = b.view.setOn (rows R C lo (lo + n)) := by
  show (b.view.slice _).set = _
  rw [View.set_slice, unit_rows inb]; rfl

/-- Contents written through a block of rows, read there. -/
theorem read_written (f : b.view.ty.Contents Val) (w : (rect R C n lo inb).shape.Idx → Val e) (hw : ∀ x, w x = G (lo + (x 0).val) (x 1))
    (x : (⟨2, ![R, C]⟩ : Shape).Idx) (hx : x ∈ rows R C lo (lo + n)) :
    b.view.read Val ((b.view.slice (rect R C n lo inb)).write Val f w Finset.univ) x = G (x 0).val (x 1) := by
  rw [← unit_rows inb, ← Rect.map_emb_univ] at hx
  obtain ⟨y, -, rfl⟩ := Finset.mem_map.mp hx
  rw [View.read_slice_write_emb _ _ _ (Finset.mem_univ _), hw y]
  exact (byRow_emb inb G y).symm

/-- A store of a whole block of rows held at some contents. -/
theorem wp_store_rows {w : (rect R C n lo inb).shape.Idx → Val e} {hx : (b.access (rect R C n lo inb)).Stores Finset.univ}
    {hm : (Finset.univ : Finset (rect R C n lo inb).shape.Idx) = Finset.univ ∨ ∀ i, (rect R C n lo inb).stride i = 1}
    {k : PUnit → Prog (TpuEff nD τ sig Val Λ .tc) α} (hw : ∀ x, w x = G (lo + (x 0).val) (x 1)) :
    (some b c lo (lo + n) : sProp 𝕄)
      ⊢ iprop((hold b c lo (lo + n) G -∗ wp frame (wpE defs 𝒱 (c.tc : Thread nD τ) bd) E (k ⟨⟩) Q)
        -∗ wp frame (wpE defs 𝒱 (c.tc : Thread nD τ) bd) E (.op (.store b (rect R C n lo inb) w Finset.univ hx hm) k) Q) := by
  unfold some hold
  iintro ⟨%f, H⟩ Hk
  iapply (wp_store 𝒱 (c.tc : Thread nD τ) bd E (m := b) (r := rect R C n lo inb) (S := b.view.setOn (rows R C lo (lo + n))) (f := f)
    (by rw [View.setOn_univ, set_rect])) $$ [H]
  · iexact H
  iintro H
  iapply Hk
  iexists ((b.access (rect R C n lo inb)).write Val f w Finset.univ)
  isplitl [H]; · iexact H
  ipureintro; intro x hx'; exact read_written f w hw x hx'

/-- The held rows of a block as a transfer's source: the slice at contents that read as the block. -/
theorem hold_slice : (hold b c lo (lo + n) G : sProp 𝕄)
    ⊢ iprop(∃ f : Buf Val (b.view.loc (c.tc : Thread nD τ)), (b.view.loc (c.tc : Thread nD τ) ↦[(b.view.slice (rect R C n lo inb)).set]{fullShare} f)
      ∗ ⌜(b.view.slice (rect R C n lo inb)).read Val f = block n lo G⌝) := by
  unfold hold
  iintro ⟨%f, H, %hf⟩
  iexists f
  rw [show (b.view.slice (rect R C n lo inb)).set = b.view.setOn (rows R C lo (lo + n)) from set_rect]
  isplitl [H]; · iexact H
  ipureintro; exact read_rect le_rfl le_rfl hf

/-- A slice at contents that read as the block is the block's rows held. -/
theorem slice_hold {f : Buf Val (b.view.loc (c.tc : Thread nD τ))} (hf : (b.view.slice (rect R C n lo inb)).read Val f = block n lo G) :
    (b.view.loc (c.tc : Thread nD τ) ↦[(b.view.slice (rect R C n lo inb)).set]{fullShare} f : sProp 𝕄) ⊢ hold b c lo (lo + n) G := by
  unfold hold
  rw [show (b.view.slice (rect R C n lo inb)).set = b.view.setOn (rows R C lo (lo + n)) from set_rect]
  iintro H
  iexists f
  isplitl [H]; · iexact H
  ipureintro; intro x hx
  rw [← unit_rows inb, ← Rect.map_emb_univ] at hx
  obtain ⟨y, -, rfl⟩ := Finset.mem_map.mp hx
  exact (congrFun hf y).trans (byRow_emb inb G y).symm

/-- A slice whose whole was written with a block. -/
theorem written_hold {f : Buf Val (b.view.loc (c.tc : Thread nD τ))} {w : (rect R C n lo inb).shape.Idx → Val e} (hw : w = block n lo G) :
    (b.view.loc (c.tc : Thread nD τ) ↦[(b.view.slice (rect R C n lo inb)).set]{fullShare} (b.view.slice (rect R C n lo inb)).write Val f w Finset.univ : sProp 𝕄)
      ⊢ hold b c lo (lo + n) G :=
  slice_hold ((View.read_write_univ _ _).trans hw)

/-- The places of a block of rows. -/
theorem some_slice : (some b c lo (lo + n) : sProp 𝕄)
    ⊢ iprop(∃ f : Buf Val (b.view.loc (c.tc : Thread nD τ)), b.view.loc (c.tc : Thread nD τ) ↦[(b.view.slice (rect R C n lo inb)).set]{fullShare} f) := by
  unfold some
  rw [show (b.view.slice (rect R C n lo inb)).set = b.view.setOn (rows R C lo (lo + n)) from set_rect]

end Steps

end Cert.Rows

end
-- ==== Proof.KernelIdealCells.lean ====
/-
# Buffers, semaphores and contents

The kernel's scratch buffers and semaphores, the device `t` steps ahead, and what each buffer holds as a function of
the arguments alone: every store and every landing leaves a block of rows of one of these contents.
-/
module

public import proofs.«01_k».proof.Proof.Rows
public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.SiteBlocks
public import Idealize.ShloMosaic.Lib.Rounds

@[expose] public section

noncomputable section

namespace Cert.KernelIdeal.Run

open Cert.KernelIdeal Cert.KernelIdeal.Gen Cert.Rows

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UB : Type := URounds (GSem nD τ sig) (Fin 7)
abbrev UU : Type := UR sig nD τ × UB

local notation "𝕄" => MT nD τ sig ℕ (Elt F) ℕ UU ℕ

abbrev 𝒱₀ : Variants := Variants.none

abbrev EP : Emb (UR sig nD τ) (MT nD τ sig ℕ (Elt F) ℕ UU ℕ) := embL
abbrev ER : Emb UB (MT nD τ sig ℕ (Elt F) ℕ UU ℕ) := embR

variable (m : (ℓ : Loc nD τ sig) → Buf (Elt F) ℓ) (ρ : Dev nD → PrngReg)

/-- The state at the start: the memory, every semaphore at zero. -/
def s₀ : MemSt nD τ sig (Elt F) := ⟨m, fun _ => 0, ρ⟩

/-! ## Devices -/

/-- The device `t` steps ahead of `c`. -/
def pl (c : Dev nD) (t : ℕ) : Dev nD := ⟨(c.val + t) % 8, Nat.mod_lt _ (by decide)⟩

theorem pl_val (c : Dev nD) (t : ℕ) : (pl c t).val = (c.val + t) % 8 := rfl

theorem pl_pl (c : Dev nD) (s t : ℕ) : pl (pl c s) t = pl c (s + t) :=
  Fin.ext (by simp only [pl_val]; omega)

theorem pl_of_dvd (c : Dev nD) {t : ℕ} (h : t % 8 = 0) : pl c t = c :=
  Fin.ext (by have : c.val < 8 := c.isLt; simp only [pl_val]; omega)

theorem pl_congr (c : Dev nD) {s t : ℕ} (h : s % 8 = t % 8) : pl c s = pl c t :=
  Fin.ext (by simp only [pl_val]; omega)

/-! ## Semaphores -/

/-- The barrier semaphore. -/
abbrev bar : Sem sig := (SemArray.scalar (sig.barrier 0 rfl) : Sems sig S_).sem

/-- Entry `v` of the `k`-th array of seven transfer semaphores. In order: send and receive of the first dispatch
    stream, of the second, of the first return stream, of the second. -/
def ds (k v : ℕ) : DmaSem sig := ⟨(5 + 7 * k + v) % 61, Nat.mod_lt _ (by decide)⟩

abbrev barCell (c : Dev nD) : GSem nD τ sig := ((c : Thread nD τ), .reg bar)
abbrev dcell (c : Dev nD) (k v : ℕ) : GSem nD τ sig := ((c : Thread nD τ), .dma (ds k v))

section Slices
variable {v : ℕ} {h : ∀ a, (![v] : Fin 1 → ℕ) a + S1.size a ≤ S7.size a} {hs : S1.Squeezes S_}

omit [FloatOps F] in
theorem idx_lt (h : ∀ a, (![v] : Fin 1 → ℕ) a + S1.size a ≤ S7.size a) : v < 7 := h 0

theorem slot_val : (S7.rowMajor ((Rect.unit (s := S7) ![v] S1.size h).emb (Shape.reshapeEquiv hs.numel_eq fun i => i.elim0))).val = v := by
  have hv := idx_lt h
  rw [Shape.rowMajor_val_one, Rect.emb_apply]
  show v + 1 * _ = v
  have hx : ((Shape.reshapeEquiv hs.numel_eq fun i => i.elim0 : S1.Idx) 0).val < 1 := ((Shape.reshapeEquiv hs.numel_eq fun i => i.elim0 : S1.Idx) 0).isLt
  rw [Nat.one_mul]
  exact congrArg (v + ·) (Nat.lt_one_iff.mp hx)

/-- The array of seven semaphores from `base = 5 + 7 k` holds the `k`-th array's entries. -/
theorem sem_consecutive (base k : ℕ) (hb : base + S7.numel ≤ 61) (hk : base = 5 + 7 * k) :
    (((SemArray.consecutive base S7 hb).slice (Rect.unit (s := S7) ![v] S1.size h)).squeeze S_ hs).sem = ds k v := by
  have hv := idx_lt h
  have hn : S7.numel = 7 := rfl
  refine Fin.ext ?_
  show base + (S7.rowMajor ((Rect.unit (s := S7) ![v] S1.size h).emb (Shape.reshapeEquiv hs.numel_eq fun i => i.elim0))).val = (5 + 7 * k + v) % 61
  rw [slot_val (hs := hs)]; omega

theorem sem9 : ((cc0_scratch9.slice (Rect.unit (s := S7) ![v] S1.size h)).squeeze S_ hs).sem = ds 0 v := sem_consecutive _ _ _ rfl
theorem sem10 : ((cc0_scratch10.slice (Rect.unit (s := S7) ![v] S1.size h)).squeeze S_ hs).sem = ds 1 v := sem_consecutive _ _ _ rfl
theorem sem11 : ((cc0_scratch11.slice (Rect.unit (s := S7) ![v] S1.size h)).squeeze S_ hs).sem = ds 2 v := sem_consecutive _ _ _ rfl
theorem sem12 : ((cc0_scratch12.slice (Rect.unit (s := S7) ![v] S1.size h)).squeeze S_ hs).sem = ds 3 v := sem_consecutive _ _ _ rfl
theorem sem13 : ((cc0_scratch13.slice (Rect.unit (s := S7) ![v] S1.size h)).squeeze S_ hs).sem = ds 4 v := sem_consecutive _ _ _ rfl
theorem sem14 : ((cc0_scratch14.slice (Rect.unit (s := S7) ![v] S1.size h)).squeeze S_ hs).sem = ds 5 v := sem_consecutive _ _ _ rfl
theorem sem15 : ((cc0_scratch15.slice (Rect.unit (s := S7) ![v] S1.size h)).squeeze S_ hs).sem = ds 6 v := sem_consecutive _ _ _ rfl
theorem sem16 : ((cc0_scratch16.slice (Rect.unit (s := S7) ![v] S1.size h)).squeeze S_ hs).sem = ds 7 v := sem_consecutive _ _ _ rfl

end Slices

/-- What one transfer credits. -/
def N : ℕ := ((Memref.whole cc0_scratch2).slice (Rect.unit (s := S384x512) ![0, 0] S48x512.size inb_S384x512_S48x512_0_0) (fun _ => rfl) : Memref sig .tc .vmem S48x512 .bf16).view.dmaCredit
theorem N_pos : 0 < N := View.dmaCredit_pos _ (by decide)

/-! ## Contents -/

section Contents
variable (c : Dev nD)

/-- The argument blocks as the pipeline stages them. -/
def XS : (cc0_stg0_0 : Ref sig .tc).ty.Contents (Elt F) := (win0_0.blk (0 : Fin 1)).view.read (Elt F) ((s₀ m ρ).mem ((c : Thread nD τ).loc main_arg0))
def AS : (cc0_stg1_0 : Ref sig .tc).ty.Contents (Elt F) := (win0_1.blk (0 : Fin 1)).view.read (Elt F) ((s₀ m ρ).mem ((c : Thread nD τ).loc main_arg1))
def W1S : (cc0_stg2_0 : Ref sig .tc).ty.Contents (Elt F) := (win0_2.blk (0 : Fin 1)).view.read (Elt F) ((s₀ m ρ).mem ((c : Thread nD τ).loc main_arg2))
def W2S : (cc0_stg3_0 : Ref sig .tc).ty.Contents (Elt F) := (win0_3.blk (0 : Fin 1)).view.read (Elt F) ((s₀ m ρ).mem ((c : Thread nD τ).loc main_arg3))

/-- The device's number as the kernel computes it. -/
abbrev idw (c : Dev nD) : BitVec 32 := Scalar.remsi (Scalar.divsi (Dev.word c) 1#32) 8#32

/-- The device's tokens, and the rank table of their experts. -/
def XB : FVec F S512x512 .bf16 := k0_pay1 (XS m ρ c)
def CODE : FVec F S16x512 .f32 := k0_pay2 (AS m ρ c)

/-- The dispatch matrix, in the three pieces the kernel builds. -/
def PA : FVec F S384x512 .bf16 :=
  k0_pay10 (CODE m ρ c) (k0_pay7 k0_pay3 48#32 k0_pay4 k0_pay5 k0_pay6) (k0_pay8 (idw c) k0_pay3 48#32 k0_pay4 k0_pay5 k0_pay6) k0_pay9
def PB : FVec F S288x512 .bf16 :=
  k0_pay20 (k0_pay19 (idw c) (CODE m ρ c) k0_pay16 2#32 k0_pay17 k0_pay18 (Scalar.extui (Scalar.cmpi .sgt 2#32 0#32)) (Scalar.cmpi .slt 2#32 0#32))
def PC : FVec F S96x512 .bf16 :=
  k0_pay29 (CODE m ρ c) (k0_pay28 (idw c) k0_pay25 48#32 k0_pay26 k0_pay27 (Scalar.extui (Scalar.cmpi .sgt 48#32 0#32)) (Scalar.cmpi .slt 48#32 0#32))

/-- Row `r` of the dispatch matrix. -/
def PALL (r : ℕ) : Fin 512 → Elt F .bf16 :=
  if r < 96 then rowOf (n := 96) (by decide) (PC m ρ c) r
  else if r < 480 then rowOf (n := 384) (by decide) (PA m ρ c) (r - 96)
  else rowOf (n := 288) (by decide) (PB m ρ c) (r - 480)

/-- Row `r` of the dispatched tokens: block `r / 96` is the dispatch matrix's block times the tokens. -/
def DS (r : ℕ) : Fin 512 → Elt F .bf16 :=
  rowOf (n := 96) (by decide) (k0_pay13 (XB m ρ c) (block 96 (96 * (r / 96)) (PALL m ρ c))) r

/-- Row `r` of the tokens received for local expert `j`: slot `r / 48` comes from the device `r / 48 + 1` steps ahead. -/
def XIN (j r : ℕ) : Fin 512 → Elt F .bf16 :=
  DS m ρ (pl c (r / 48 + 1)) (48 * (2 * (7 - r / 48) + j) + r % 48)

/-- The local experts' weights as the kernel reads them. -/
def W1B : (cc0_scratch7 : Ref sig .tc).ty.Contents (Elt F) := k0_pay33 (W1S m ρ c)
def W2B : (cc0_scratch8 : Ref sig .tc).ty.Contents (Elt F) := k0_pay34 (W2S m ρ c)

def w1e : ℕ → Vec F S1x512x1024 .bf16
  | 0 => (Memref.whole cc0_scratch7).view.readAt (Elt F) (Rect.unit (s := S2x512x1024) ![0, 0, 0] S1x512x1024.size inb_S2x512x1024_S1x512x1024_0_0_0).toLoadRect (W1B m ρ c)
  | _ => (Memref.whole cc0_scratch7).view.readAt (Elt F) (Rect.unit (s := S2x512x1024) ![1, 0, 0] S1x512x1024.size inb_S2x512x1024_S1x512x1024_1_0_0).toLoadRect (W1B m ρ c)
def w2e : ℕ → Vec F S1x1024x512 .bf16
  | 0 => (Memref.whole cc0_scratch8).view.readAt (Elt F) (Rect.unit (s := S2x1024x512) ![0, 0, 0] S1x1024x512.size inb_S2x1024x512_S1x1024x512_0_0_0).toLoadRect (W2B m ρ c)
  | _ => (Memref.whole cc0_scratch8).view.readAt (Elt F) (Rect.unit (s := S2x1024x512) ![1, 0, 0] S1x1024x512.size inb_S2x1024x512_S1x1024x512_1_0_0).toLoadRect (W2B m ρ c)

/-- Row `r` of local expert `j`'s results. -/
def YE (j r : ℕ) : Fin 512 → Elt F .bf16 :=
  rowOf (n := 192) (by decide) (k0_pay35 (block 192 (192 * (r / 192)) (XIN m ρ c j)) (w1e m ρ c j) (w2e m ρ c j)) r

/-- Row `r` of the returned results: block `b = r / 48` comes from local expert `b % 2` of the device `b / 2` steps ahead. -/
def YRET (r : ℕ) : Fin 512 → Elt F .bf16 :=
  YE m ρ (pl c (r / 96)) (r / 48 % 2) (48 * (7 - r / 96) + r % 48)

/-- The result block: the dispatch matrix transposed times the returned results, in the kernel's three pieces. -/
def OUT : (cc0_stg4_0 : Ref sig .tc).ty.Contents (Elt F) :=
  k0_pay44 (k0_pay43 (block 384 384 (PALL m ρ c)) (block 384 384 (YRET m ρ c)) (block 96 0 (PALL m ρ c)) (block 96 0 (YRET m ρ c)))
    (block 288 96 (PALL m ρ c)) (block 288 96 (YRET m ρ c))

end Contents

/-! ## A buffer's block of rows -/

abbrev bPall : Memref sig .tc .vmem S768x512 .bf16 := Memref.whole cc0_scratch0
abbrev bDs : Memref sig .tc .vmem S768x512 .bf16 := Memref.whole cc0_scratch1
abbrev bX0 : Memref sig .tc .vmem S384x512 .bf16 := Memref.whole cc0_scratch2
abbrev bX1 : Memref sig .tc .vmem S384x512 .bf16 := Memref.whole cc0_scratch3
abbrev bY0 : Memref sig .tc .vmem S384x512 .bf16 := Memref.whole cc0_scratch4
abbrev bY1 : Memref sig .tc .vmem S384x512 .bf16 := Memref.whole cc0_scratch5
abbrev bYr : Memref sig .tc .vmem S768x512 .bf16 := Memref.whole cc0_scratch6

/-- Rows of a scratch buffer at some contents, and at the contents `G`. -/
abbrev some' {R : ℕ} (b : Memref sig .tc .vmem ⟨2, ![R, 512]⟩ .bf16) (c : Dev nD) (lo hi : ℕ) : sProp 𝕄 := some (τ := τ) b c lo hi
abbrev hold' {R : ℕ} (b : Memref sig .tc .vmem ⟨2, ![R, 512]⟩ .bf16) (c : Dev nD) (lo hi : ℕ) (G : ℕ → Fin 512 → Elt F .bf16) : sProp 𝕄 :=
  hold (τ := τ) b c lo hi G

end Cert.KernelIdeal.Run

end
-- ==== Proof.KernelIdealSched.lean ====
/-
# The schedule

One round per semaphore. A device's barrier cell gets a unit from each other device, which gives it the places its
own transfers to that device will land in. A transfer's send cell gives back the rows sent, its receive cell hands
over the rows landed. What a device owes is counted in program order; a wait's index says how far up the order it lies.
-/
module

public import proofs.«01_k».proof.Proof.KernelIdealCells
public import Mathlib.Algebra.BigOperators.Intervals

@[expose] public section

noncomputable section

namespace Cert.KernelIdeal.Run

open Cert.KernelIdeal Cert.KernelIdeal.Gen Cert.Rows

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ) (ρ : Dev nD → PrngReg)

/-- The places on device `pl d (σ + 1)` that device `d`'s transfers over that distance land in. -/
def peer (d : Dev nD) (σ : ℕ) : sProp 𝕄 :=
  iprop(some' bX0 (pl d (σ + 1)) (48 * (6 - σ)) (48 * (6 - σ) + 48) ∗ some' bX1 (pl d (σ + 1)) (48 * (6 - σ)) (48 * (6 - σ) + 48)
    ∗ some' bYr (pl d (σ + 1)) (96 * (7 - σ)) (96 * (7 - σ) + 48) ∗ some' bYr (pl d (σ + 1)) (96 * (7 - σ) + 48) (96 * (7 - σ) + 48 + 48))

/-- What the transfer on entry `v` of array `k` of device `c`'s semaphores hands over. -/
def dpay (c : Dev nD) (k v : ℕ) : sProp 𝕄 :=
  match k with
  | 0 => hold' bDs c (96 * (v + 1)) (96 * (v + 1) + 48) (DS m ρ c)
  | 1 => hold' bX0 c (48 * v) (48 * v + 48) (XIN m ρ c 0)
  | 2 => hold' bDs c (96 * (v + 1) + 48) (96 * (v + 1) + 48 + 48) (DS m ρ c)
  | 3 => hold' bX1 c (48 * v) (48 * v + 48) (XIN m ρ c 1)
  | 4 => hold' bY0 c (48 * v) (48 * v + 48) (YE m ρ c 0)
  | 5 => hold' bYr c (96 * (v + 1)) (96 * (v + 1) + 48) (YRET m ρ c)
  | 6 => hold' bY1 c (48 * v) (48 * v + 48) (YE m ρ c 1)
  | _ => hold' bYr c (96 * (v + 1) + 48) (96 * (v + 1) + 48 + 48) (YRET m ρ c)

/-- The array and the entry of a transfer semaphore. -/
def arrOf : SemLoc sig → ℕ
  | .reg _ => 0
  | .dma q => (q.val - 5) / 7
def entOf : SemLoc sig → ℕ
  | .reg _ => 0
  | .dma q => (q.val - 5) % 7

abbrev IsBar (g : GSem nD τ sig) : Prop := g.1.2 = .tc ∧ g.2 = .reg bar
def isXfer : SemLoc sig → Bool
  | .reg _ => false
  | .dma q => decide (5 ≤ q.val)

def Rd : Rounds.Schedule (GSem nD τ sig) (Fin 7) 𝕄 where
  duties g r := if r = 0 ∧ IsBar g then Finset.univ else if r = 0 ∧ g.1.2 = .tc ∧ isXfer g.2 = true then {0} else ∅
  unitless _ := False
  amount g _ _ := if g.2 = .reg bar then 1 else N
  payload g _ σ := if g.2 = .reg bar then peer g.1.1 σ.val else dpay m ρ g.1.1 (arrOf g.2) (entOf g.2)
  amount_pos g _ _ _ := by
    by_cases h : g.2 = .reg bar
    · rw [if_pos h]; exact Nat.one_pos
    · rw [if_neg h]; exact N_pos

instance peer_storable (d : Dev nD) (σ : ℕ) : BI.Storable (upEmb : UEmb _ 𝕄) (peer (F := F) d σ) := by unfold peer; infer_instance
instance dpay_storable (c : Dev nD) (k v : ℕ) : BI.Storable (upEmb : UEmb _ 𝕄) (dpay m ρ c k v) := by
  unfold dpay; split <;> infer_instance
instance Rd_payload_storable (g : GSem nD τ sig) (r : ℕ) (σ : Fin 7) : BI.Storable (upEmb : UEmb _ 𝕄) ((Rd m ρ).payload g r σ) := by
  show BI.Storable upEmb (if g.2 = .reg bar then peer g.1.1 σ.val else dpay m ρ g.1.1 (arrOf g.2) (entOf g.2))
  split <;> infer_instance

section Sched
variable (c : Dev nD)

theorem ds_val {k v : ℕ} (hk : k < 8) (hv : v < 7) : (ds k v).val = 5 + 7 * k + v := Nat.mod_eq_of_lt (by omega)
theorem arrOf_ds {k v : ℕ} (hk : k < 8) (hv : v < 7) : arrOf (.dma (ds k v)) = k := by
  show ((ds k v).val - 5) / 7 = k; rw [ds_val hk hv]; omega
theorem entOf_ds {k v : ℕ} (hk : k < 8) (hv : v < 7) : entOf (.dma (ds k v)) = v := by
  show ((ds k v).val - 5) % 7 = v; rw [ds_val hk hv]; omega
theorem isXfer_ds {k v : ℕ} (hk : k < 8) (hv : v < 7) : isXfer (.dma (ds k v)) = true := by
  show decide (5 ≤ (ds k v).val) = true; rw [ds_val hk hv]; exact decide_eq_true (by omega)
theorem ds_inj {k v k' v' : ℕ} (hk : k < 8) (hv : v < 7) (hk' : k' < 8) (hv' : v' < 7) (h : ds k v = ds k' v') : k = k' ∧ v = v' := by
  have h' := congrArg Fin.val h
  rw [ds_val hk hv, ds_val hk' hv'] at h'
  omega

theorem duties_bar : (Rd m ρ).duties (barCell c) 0 = Finset.univ := by dsimp only [Rd]; exact if_pos ⟨rfl, rfl, rfl⟩
theorem duties_d {k v : ℕ} (hk : k < 8) (hv : v < 7) : (Rd m ρ).duties (dcell c k v) 0 = {0} := by
  dsimp only [Rd]; rw [if_neg (fun h => by cases h.2.2)]; exact if_pos ⟨rfl, rfl, isXfer_ds hk hv⟩
theorem duties_later (g : GSem nD τ sig) : ∀ r, 0 + 1 ≤ r → (Rd m ρ).duties g r = ∅ :=
  fun r hr => by dsimp only [Rd]; rw [if_neg fun h => by omega, if_neg fun h => by omega]
theorem amount_bar (σ : Fin 7) : (Rd m ρ).amount (barCell c) 0 σ = 1 := by dsimp only [Rd]; exact if_pos rfl
theorem amount_d (q : DmaSem sig) (σ : Fin 7) : (Rd m ρ).amount ((c : Thread nD τ), .dma q) 0 σ = N := by
  dsimp only [Rd]; exact if_neg (fun h => by cases h)
theorem expect_bar : (Rd m ρ).expect (barCell c) 0 = 7 := by
  unfold Schedule.expect Schedule.amountOf
  rw [duties_bar, Finset.sum_congr rfl fun d _ => amount_bar m ρ c d, Finset.sum_const, Finset.card_univ, Fintype.card_fin, smul_eq_mul]
theorem expect_d {k v : ℕ} (hk : k < 8) (hv : v < 7) : (Rd m ρ).expect (dcell c k v) 0 = N := by
  unfold Schedule.expect Schedule.amountOf; rw [duties_d m ρ c hk hv, Finset.sum_singleton, amount_d]
theorem payload_bar (σ : Fin 7) : (Rd m ρ).payload (barCell c) 0 σ = peer c σ.val := by dsimp only [Rd]; exact if_pos rfl
theorem payload_d {k v : ℕ} (hk : k < 8) (hv : v < 7) (σ : Fin 7) : (Rd m ρ).payload (dcell c k v) 0 σ = dpay m ρ c k v := by
  dsimp only [Rd]; rw [if_neg (fun h => by cases h), arrOf_ds hk hv, entOf_ds hk hv]
theorem rest_bar : bigSep ((Rd m ρ).duties (barCell c) 0 \ ∅) (fun σ => (Rd m ρ).payload (barCell c) 0 σ)
    = iprop(peer c 0 ∗ peer c 1 ∗ peer c 2 ∗ peer c 3 ∗ peer c 4 ∗ peer c 5 ∗ peer c 6) := by
  rw [Finset.sdiff_empty, duties_bar, bigSep_univ_eq_bigSepL [0, 1, 2, 3, 4, 5, 6] (by decide) (by decide)]
  simp only [bigSepL_cons_cons, bigSepL_singleton, payload_bar]; rfl
theorem rest_d {k v : ℕ} (hk : k < 8) (hv : v < 7) :
    bigSep ((Rd m ρ).duties (dcell c k v) 0 \ ∅) (fun σ => (Rd m ρ).payload (dcell c k v) 0 σ) = dpay m ρ c k v := by
  rw [Finset.sdiff_empty, duties_d m ρ c hk hv, bigSep_singleton, payload_d m ρ c hk hv]

end Sched

/-! ## What is owed -/

/-- The `n`-th due in program order: cell, index, amount. Seven signals, then the dispatch transfers, then the returns. -/
def due (c : Dev nD) (n : ℕ) : CellTallies nD τ sig ℕ :=
  if n < 7 then tallyAt (barCell (pl c (n + 1))) 1 1
  else if n < 21 then tallyAt (dcell (pl c ((n - 7) / 2 + 1)) (1 + 2 * ((n - 7) % 2)) (6 - (n - 7) / 2)) 2 N
  else tallyAt (dcell (pl c ((n - 21) / 2 + 1)) (5 + 2 * ((n - 21) % 2)) (6 - (n - 21) / 2)) 3 N

/-- What device `c` still owes after `n` dues. -/
def owed (c : Dev nD) (n : ℕ) : CellTallies nD τ sig ℕ := ∑ i ∈ Finset.Ico n 35, due c i

theorem owed_succ (c : Dev nD) {n : ℕ} (h : n < 35) : owed c n = owed c (n + 1) + due c n := by
  unfold owed; rw [Finset.sum_eq_sum_Ico_succ_bot h, add_comm]
theorem owed_end (c : Dev nD) : owed c 35 = 0 := by unfold owed; rw [Finset.Ico_self, Finset.sum_empty]

/-- The lowest index still owed after `n` dues. -/
def bound (n : ℕ) : ℕ := if n < 7 then 1 else if n < 21 then 2 else if n < 35 then 3 else 4

theorem owed_pos {c : Dev nD} {n : ℕ} {g : GSem nD τ sig} {i : ℕ} (h : 0 < owed c n g i) :
    i ∈ SiteBlocks.L 4 g ∧ bound n ≤ i := by
  unfold owed at h
  rw [Finset.sum_apply, Finsupp.finsetSum_apply] at h
  obtain ⟨j, hj, hp⟩ := Finset.exists_ne_zero_of_sum_ne_zero (Nat.pos_iff_ne_zero.mp h)
  have hj' := Finset.mem_Ico.mp hj
  have hp' := Nat.pos_of_ne_zero hp
  unfold due at hp'
  unfold bound
  split_ifs at hp' with h1 h2
  all_goals
    obtain ⟨rfl, rfl⟩ := Pipeline.tallyAt_pos hp'
    refine ⟨SiteBlocks.mem_L' rfl (by omega), ?_⟩
    split_ifs <;> omega

/-- A wait at an index below everything still owed. -/
theorem mayWait (c : Dev nD) (sm : SemLoc sig) (i n : ℕ) (h : i < bound n) :
    (levAts (SiteBlocks.L 4) SiteBlocks.lv : sProp 𝕄) ⊢ MayWait (c : Thread nD τ) sm i (owed c n) :=
  SiteBlocks.mayWait_of (lt_of_lt_of_le h (by unfold bound; split_ifs <;> omega)) c sm _ fun g k hg =>
    ⟨(owed_pos hg).1, lt_of_lt_of_le h (owed_pos hg).2⟩

/-! ## The records -/

def knownB (c : Dev nD) : sProp 𝕄 := iprop((∃ κ : ℕ, cellInv ER (Rd m ρ) κ (barCell c)) ∗ reached ER (barCell c) 0)
def knownD (c : Dev nD) (k v : ℕ) : sProp 𝕄 := iprop((∃ κ : ℕ, cellInv ER (Rd m ρ) κ (dcell c k v)) ∗ reached ER (dcell c k v) 0)

instance knownB_persistent (c : Dev nD) : BI.Persistent (knownB m ρ c) := by unfold knownB; infer_instance
instance knownD_persistent (c : Dev nD) (k v : ℕ) : BI.Persistent (knownD m ρ c k v) := by unfold knownD; infer_instance

/-- The same over the cells' index type. -/
def knownX (x : Dev nD × Fin 8 × Fin 7) : sProp 𝕄 := knownD m ρ x.1 x.2.1.val x.2.2.val
instance knownX_persistent (x : Dev nD × Fin 8 × Fin 7) : BI.Persistent (knownX m ρ x) := by unfold knownX; infer_instance

/-- Every cell of every device follows the schedule and has reached its round. -/
def records : sProp 𝕄 :=
  iprop((bigSep Finset.univ fun c : Dev nD => knownB m ρ c)
    ∗ bigSep Finset.univ fun x : Dev nD × Fin 8 × Fin 7 => knownX m ρ x)

instance records_persistent : BI.Persistent (records m ρ) := by unfold records; infer_instance

theorem records_bar (c : Dev nD) : records m ρ ⊢ knownB m ρ c := by
  refine (show records m ρ ⊢ (bigSep Finset.univ fun c : Dev nD => knownB m ρ c : sProp 𝕄) from ?_).trans (bigSep_elim (Finset.mem_univ c))
  unfold records; iintro ⟨H, -⟩; iexact H
theorem records_d (c : Dev nD) {k v : ℕ} (hk : k < 8) (hv : v < 7) : records m ρ ⊢ knownD m ρ c k v := by
  have h : (bigSep Finset.univ fun x : Dev nD × Fin 8 × Fin 7 => knownX m ρ x : sProp 𝕄) ⊢ knownX m ρ (c, ⟨k, hk⟩, ⟨v, hv⟩) :=
    bigSep_elim (Finset.mem_univ _)
  refine (show records m ρ ⊢ (bigSep Finset.univ fun x : Dev nD × Fin 8 × Fin 7 => knownX m ρ x : sProp 𝕄) from ?_).trans h
  unfold records; iintro ⟨-, H⟩; iexact H

end Cert.KernelIdeal.Run

end
-- ==== Proof.KernelIdealSteps.lean ====
/-
# One step at a time

The kernel's signals, transfers and waits as steps: what each needs and what it leaves, with what the device still owes
counted by the number of dues paid.
-/
module

public import proofs.«01_k».proof.Proof.KernelIdealSched

@[expose] public section

noncomputable section

namespace Cert.KernelIdeal.Run

open Cert.KernelIdeal Cert.KernelIdeal.Gen Cert.Rows

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ) (ρ : Dev nD → PrngReg)

/-- Everything that stays known: the cells' records and the levels. -/
def known : sProp 𝕄 := iprop(records m ρ ∗ levAts (SiteBlocks.L 4) SiteBlocks.lv)
instance known_persistent : BI.Persistent (known m ρ) := by unfold known; infer_instance

theorem known_bar (c : Dev nD) : known m ρ ⊢ knownB m ρ c := by
  unfold known; iintro ⟨H, -⟩; iapply (records_bar m ρ c); iexact H
theorem known_d (c : Dev nD) {k v : ℕ} (hk : k < 8) (hv : v < 7) : known m ρ ⊢ knownD m ρ c k v := by
  unfold known; iintro ⟨H, -⟩; iapply (records_d m ρ c hk hv); iexact H
theorem known_wait (c : Dev nD) (sm : SemLoc sig) (i n : ℕ) (h : i < bound n) : known m ρ ⊢ MayWait (c : Thread nD τ) sm i (owed c n) := by
  unfold known; iintro ⟨-, H⟩; iapply (mayWait c sm i n h); iexact H

/-- Device `c` has paid `n` dues. -/
def own (c : Dev nD) (n : ℕ) : sProp 𝕄 := iprop(∃ W : Waits sig ℕ, owes (c : Thread nD τ) (owed c n) W)

/-- The token of a transfer cell's one duty, and the owner's position at its start. -/
abbrev tok (c : Dev nD) (k v : ℕ) : sProp 𝕄 := dutyTok ER (dcell c k v) 0 (0 : Fin 7)
abbrev pos (c : Dev nD) (k v : ℕ) : sProp 𝕄 := atPos ER (dcell c k v) 0 ∅ 0
abbrev btok (c : Dev nD) (σ : ℕ) : sProp 𝕄 := dutyTok ER (barCell c) 0 (⟨σ % 7, Nat.mod_lt _ (by decide)⟩ : Fin 7)

/-- What device `c`'s `τ`-th transfer of stream `i` needs, what it leaves, and what a wait on a received block needs. -/
def Out (c : Dev nD) (i τ : ℕ) : sProp 𝕄 := iprop(tok c (2 * i) τ ∗ pos c (2 * i) τ ∗ tok (pl c (τ + 1)) (2 * i + 1) (6 - τ))
def Wt (c : Dev nD) (k ι v : ℕ) : sProp 𝕄 := iprop(pos c k v ∗ cred (tallyAt (dcell c k v) ι N))

/-- What device `c` gives away with its `τ`-th signal. -/
abbrev mine (c : Dev nD) (τ : ℕ) : sProp 𝕄 := peer (pl c (τ + 1)) (6 - τ)

theorem mine_eq (c : Dev nD) {τ : ℕ} (h : τ < 7) : (mine c τ : sProp 𝕄)
    = iprop(some' bX0 c (48 * τ) (48 * τ + 48) ∗ some' bX1 c (48 * τ) (48 * τ + 48)
      ∗ some' bYr c (96 * (τ + 1)) (96 * (τ + 1) + 48) ∗ some' bYr c (96 * (τ + 1) + 48) (96 * (τ + 1) + 48 + 48)) := by
  unfold mine peer
  rw [pl_pl, pl_of_dvd c (t := τ + 1 + (6 - τ + 1)) (by omega), show 6 - (6 - τ) = τ by omega, show 7 - (6 - τ) = τ + 1 by omega]

section Steps
variable {α : Type} {Q : α → sProp (MT nD τ sig ℕ (Elt F) ℕ UU ℕ)} (c : Dev nD)

/-- The `τ`-th signal, to the device `τ + 1` steps ahead. -/
theorem step_signal (τ' : ℕ) {c' : Dev nD} (hc : c' = pl c (τ' + 1)) (h : τ' < 7) {k : PUnit → Prog (TpuEff nD τ sig (Elt F) Λ₀ .tc) α} :
    iprop(known m ρ ∗ own c τ' ∗ btok c' (6 - τ') ∗ mine c τ')
      ⊢ iprop((own c (τ' + 1) -∗ wp frame (wpE (defs₀ (F := F)) 𝒱₀ (c : Thread nD τ) none) Set.univ (k ⟨⟩) Q)
        -∗ wp frame (wpE (defs₀ (F := F)) 𝒱₀ (c : Thread nD τ) none) Set.univ (.op (.semSignal (c' : Thread nD τ) bar 1) k) Q) := by
  subst hc
  unfold own
  iintro ⟨#Hk, ⟨%W, HO⟩, Ht, Hp⟩ Hw
  ihave Hb := (known_bar m ρ (pl c (τ' + 1))) $$ Hk
  unfold knownB
  icases Hb with ⟨⟨%κ, #HI⟩, #HR⟩
  have hσ : (6 - τ') % 7 = 6 - τ' := Nat.mod_eq_of_lt (by omega)
  iapply (Rounds.wp_signal 𝒱₀ ER (Rd m ρ) (c : Thread nD τ) none (dst := (pl c (τ' + 1) : Thread nD τ)) (κ := κ)
      (d := (⟨(6 - τ') % 7, Nat.mod_lt _ (by decide)⟩ : Fin 7)) (by rw [duties_bar]; exact Finset.mem_univ _) (amount_bar m ρ _ _) 1 (O₀ := owed c τ') (owed c (τ' + 1))
      (by rw [owed_succ c (n := τ') (by omega)]; unfold due; rw [if_pos h])) $$ [HO Ht Hp]
  · isplitr; · iexact HI
    isplitl [HO]; · iexact HO
    isplitl [Ht]; · iexact Ht
    isplitl [Hp]
    · rw [payload_bar, show (⟨(6 - τ') % 7, Nat.mod_lt _ (by decide)⟩ : Fin 7).val = 6 - τ' from hσ]; iexact Hp
    iexact HR
  iintro HO
  iapply Hw
  iexists W; iexact HO

/-- The wait on the barrier: it hands over the landing places on every other device. -/
theorem step_bar {k : PUnit → Prog (TpuEff nD τ sig (Elt F) Λ₀ .tc) α} :
    iprop(known m ρ ∗ own c 7 ∗ atPos ER (barCell c) 0 ∅ 0 ∗ cred (tallyAt (barCell c) 1 7))
      ⊢ iprop(((own c 7 ∗ semVal (barCell c) 0 ∗ peer c 0 ∗ peer c 1 ∗ peer c 2 ∗ peer c 3 ∗ peer c 4 ∗ peer c 5 ∗ peer c 6)
          -∗ wp frame (wpE (defs₀ (F := F)) 𝒱₀ (c : Thread nD τ) none) Set.univ (k ⟨⟩) Q)
        -∗ wp frame (wpE (defs₀ (F := F)) 𝒱₀ (c : Thread nD τ) none) Set.univ (.op (.semWait bar 7) k) Q) := by
  unfold own
  iintro ⟨#Hk, ⟨%W, HO⟩, Hat, Hc⟩ Hw
  ihave Hb := (known_bar m ρ c) $$ Hk
  unfold knownB
  icases Hb with ⟨⟨%κ, #HI⟩, -⟩
  iapply (Rounds.wp_wait_rest_token 𝒱₀ ER (Rd m ρ) (c : Thread nD τ) none (κ := κ)
      (wpE_semWait_eq 𝒱₀ (c : Thread nD τ) none Set.univ) (Set.mem_univ _) 1 (O := owed c 7) (W := W) (R := 0) (m := 0) (T := ∅)
      (by rw [expect_bar])) $$ [HO Hat Hc]
  · isplitr; · iexact HI
    isplitl [Hc]; · iexact Hc
    isplitl [HO]; · iexact HO
    isplitr; · iapply (known_wait m ρ c _ 1 7 (by decide)); iexact Hk
    iexact Hat
  iintro ⟨HO, Hat, -, Hpay⟩
  imod (Rounds.cell_close ER (Rd m ρ) (Set.mem_univ κ) (fun h => h) (R := 0 + 1) (duties_later m ρ (barCell c))) $$ [Hat] with Hz
  · isplitr; · iexact HI
    iexact Hat
  iapply Hw
  isplitl [HO]; · iexists _; iexact HO
  isplitl [Hz]; · iexact Hz
  iapply (Entails.of_eq (rest_bar m ρ c)); iexact Hpay

/-- A wait for a transfer. -/
theorem step_wait (k' ι v n : ℕ) (hk : k' < 8) (hv : v < 7) (hι : ι < bound n) {q : DmaSem sig} (hq : q = ds k' v)
    {src dst : Memref sig .tc .vmem S48x512 .bf16} {hsrc : src.view.WordExact} {hdst : dst.view.WordExact} (hN : dst.view.dmaCredit = N)
    {k : PUnit → Prog (TpuEff nD τ sig (Elt F) Λ₀ .tc) α} :
    iprop(known m ρ ∗ own c n ∗ Wt c k' ι v)
      ⊢ iprop(((own c n ∗ semVal (dcell c k' v) 0 ∗ dpay m ρ c k' v)
          -∗ wp frame (wpE (defs₀ (F := F)) 𝒱₀ (c : Thread nD τ) none) Set.univ (k ⟨⟩) Q)
        -∗ wp frame (wpE (defs₀ (F := F)) 𝒱₀ (c : Thread nD τ) none) Set.univ (.op (.waitDma2 q src dst hsrc hdst) k) Q) := by
  subst hq
  unfold own Wt
  iintro ⟨#Hk, ⟨%W, HO⟩, Hat, Hc⟩ Hw
  ihave Hb := (known_d m ρ c hk hv) $$ Hk
  unfold knownD
  icases Hb with ⟨⟨%κ, #HI⟩, -⟩
  iapply (Rounds.wp_wait_rest_token 𝒱₀ ER (Rd m ρ) (c : Thread nD τ) none (κ := κ)
      (wpE_waitDma2_eq 𝒱₀ (c : Thread nD τ) none Set.univ) (Set.mem_univ _) ι (O := owed c n) (W := W) (R := 0) (m := 0) (T := ∅)
      (by rw [expect_d m ρ c hk hv, hN, Nat.zero_add])) $$ [HO Hat Hc]
  · isplitr; · iexact HI
    isplitl [Hc]; · rw [hN]; iexact Hc
    isplitl [HO]; · iexact HO
    isplitr; · iapply (known_wait m ρ c _ ι n hι); iexact Hk
    iexact Hat
  iintro ⟨HO, Hat, -, Hpay⟩
  imod (Rounds.cell_close ER (Rd m ρ) (Set.mem_univ κ) (fun h => h) (R := 0 + 1) (duties_later m ρ (dcell c k' v))) $$ [Hat] with Hz
  · isplitr; · iexact HI
    iexact Hat
  iapply Hw
  isplitl [HO]; · iexists _; iexact HO
  isplitl [Hz]; · iexact Hz
  iapply (Entails.of_eq (rest_d m ρ c hk hv)); iexact Hpay

/-- A transfer between two views, given what its two cells get. -/
theorem wp_send_core (c' : Dev nD) {src dst : Memref sig .tc .vmem S48x512 .bf16} {qS qD : DmaSem sig}
    (hd₁ : 0 ∈ (Rd m ρ).duties ((c : Thread nD τ), .dma qS) 0) (hd₂ : 0 ∈ (Rd m ρ).duties ((c' : Thread nD τ), .dma qD) 0) (ι n : ℕ)
    (hN : dst.view.dmaCredit = N) (hO : owed c n = owed c (n + 1) + tallyAt ((c' : Thread nD τ), SemLoc.dma qD) ι N)
    {fs : Buf (Elt F) (src.view.loc (c : Thread nD τ))} {fd : Buf (Elt F) (dst.view.loc (c' : Thread nD τ))}
    (h₁ : (src.view.loc (c : Thread nD τ) ↦[src.view.set]{fullShare} fs : sProp 𝕄) ⊢ (Rd m ρ).payload ((c : Thread nD τ), .dma qS) 0 0)
    (h₂ : (dst.view.loc (c' : Thread nD τ) ↦[dst.view.set]{fullShare} dst.view.write (Elt F) fd (src.view.read (Elt F) fs) Finset.univ : sProp 𝕄)
      ⊢ (Rd m ρ).payload ((c' : Thread nD τ), .dma qD) 0 0) {κ κ' : ℕ} {W : Waits sig ℕ}
    {hsc : (dst : Memref sig (Dev.tc c' : Thread nD τ).2.kind .vmem S48x512 .bf16).view.ref.isScScratch = false}
    {hsrc : src.view.WordExact} {hdst : dst.view.WordExact}
    {hsem : DmaTarget.Typed .vmem (.dma qD) (.remote (Dev.tc c' : Thread nD τ) (dst : Memref sig .tc .vmem S48x512 .bf16) (.dma qS) hsc)}
    {k : PUnit → Prog (TpuEff nD τ sig (Elt F) Λ₀ .tc) α} :
    iprop(cellInv ER (Rd m ρ) κ ((c : Thread nD τ), .dma qS) ∗ cellInv ER (Rd m ρ) κ' ((c' : Thread nD τ), .dma qD)
        ∗ (src.view.loc (c : Thread nD τ) ↦[src.view.set]{fullShare} fs) ∗ (dst.view.loc (c' : Thread nD τ) ↦[dst.view.set]{fullShare} fd)
        ∗ owes (c : Thread nD τ) (owed c n) W
        ∗ dutyTok ER ((c : Thread nD τ), .dma qS) 0 (0 : Fin 7) ∗ reached ER ((c : Thread nD τ), .dma qS) 0
        ∗ dutyTok ER ((c' : Thread nD τ), .dma qD) 0 (0 : Fin 7) ∗ reached ER ((c' : Thread nD τ), .dma qD) 0)
      ⊢ iprop(((cred (tallyAt ((c : Thread nD τ), SemLoc.dma qS) 0 N) ∗ owes (c : Thread nD τ) (owed c (n + 1)) W)
          -∗ wp frame (wpE (defs₀ (F := F)) 𝒱₀ (c : Thread nD τ) none) Set.univ (k ⟨⟩) Q)
        -∗ wp frame (wpE (defs₀ (F := F)) 𝒱₀ (c : Thread nD τ) none) Set.univ
          (.op (.enqueueDma src (.remote (Dev.tc c' : Thread nD τ) dst (.dma qS) hsc) (.dma qD) hsrc hdst hsem) k) Q) :=
  Rounds.wp_send_pointsTo 𝒱₀ ER (Rd m ρ) (c : Thread nD τ) none (κ₁ := κ) (κ₂ := κ') (r₁ := 0) (r₂ := 0) (d₁ := (0 : Fin 7)) (d₂ := (0 : Fin 7))
    (fd := fd) hd₁ hd₂ ι 0 N hN (amount_d m ρ c _ _) (amount_d m ρ _ _ _) (owed c (n + 1)) hO (W := W) h₁ h₂

/-- A transfer: the `τ`-th of stream `i`, the `n`-th due. -/
theorem step_send (i τ' n ι : ℕ) (hi : i < 4) (hτ : τ' < 7) (hn : n < 35) {c' : Dev nD} (hc : c' = pl c (τ' + 1))
    (hdue : due c n = tallyAt (dcell (pl c (τ' + 1)) (2 * i + 1) (6 - τ')) ι N)
    {R R' lo lo' : ℕ} {bs : Memref sig .tc .vmem ⟨2, ![R, 512]⟩ .bf16} {bd : Memref sig .tc .vmem ⟨2, ![R', 512]⟩ .bf16}
    {inb : ∀ i, (![lo, 0] : Fin 2 → ℕ) i + (![48, 512] : Fin 2 → ℕ) i ≤ (⟨2, ![R, 512]⟩ : Shape).size i}
    {inb' : ∀ i, (![lo', 0] : Fin 2 → ℕ) i + (![48, 512] : Fin 2 → ℕ) i ≤ (⟨2, ![R', 512]⟩ : Shape).size i}
    {sS sD : DmaSem sig} (hS : sS = ds (2 * i) τ') (hD : sD = ds (2 * i + 1) (6 - τ')) {G G' : ℕ → Fin 512 → Elt F .bf16}
    (hp : dpay m ρ c (2 * i) τ' = hold' bs c lo (lo + 48) G) (hp' : dpay m ρ (pl c (τ' + 1)) (2 * i + 1) (6 - τ') = hold' bd (pl c (τ' + 1)) lo' (lo' + 48) G')
    (hG : ∀ x, x < 48 → G (lo + x) = G' (lo' + x))
    {hr : ∀ a, (rect R 512 48 lo inb).stride a = 1} {hr' : ∀ a, (rect R' 512 48 lo' inb').stride a = 1}
    (hN : ((bd.slice (rect R' 512 48 lo' inb') hr' : Memref sig .tc .vmem S48x512 .bf16).view.dmaCredit = N))
    {hsc : (bd.slice (rect R' 512 48 lo' inb') hr' : Memref sig (Dev.tc c' : Thread nD τ).2.kind .vmem S48x512 .bf16).view.ref.isScScratch = false}
    {hsrc : (bs.slice (rect R 512 48 lo inb) hr : Memref sig .tc .vmem S48x512 .bf16).view.WordExact}
    {hdst : (bd.slice (rect R' 512 48 lo' inb') hr' : Memref sig .tc .vmem S48x512 .bf16).view.WordExact}
    {hsem : DmaTarget.Typed .vmem (.dma sD) (.remote (Dev.tc c' : Thread nD τ) (bd.slice (rect R' 512 48 lo' inb') hr' : Memref sig .tc .vmem S48x512 .bf16) (.dma sS) hsc)}
    {k : PUnit → Prog (TpuEff nD τ sig (Elt F) Λ₀ .tc) α} :
    iprop(known m ρ ∗ own c n ∗ Out c i τ' ∗ hold' bs c lo (lo + 48) G ∗ some' bd c' lo' (lo' + 48))
      ⊢ iprop(((own c (n + 1) ∗ Wt c (2 * i) 0 τ') -∗ wp frame (wpE (defs₀ (F := F)) 𝒱₀ (c : Thread nD τ) none) Set.univ (k ⟨⟩) Q)
        -∗ wp frame (wpE (defs₀ (F := F)) 𝒱₀ (c : Thread nD τ) none) Set.univ
          (.op (.enqueueDma (bs.slice (rect R 512 48 lo inb) hr : Memref sig .tc .vmem S48x512 .bf16)
            (.remote (Dev.tc c' : Thread nD τ) (bd.slice (rect R' 512 48 lo' inb') hr' : Memref sig .tc .vmem S48x512 .bf16) (.dma sS) hsc) (.dma sD) hsrc hdst hsem) k) Q) := by
  subst hc hS hD
  unfold own Out Wt
  iintro ⟨#Hk, ⟨%W, HO⟩, ⟨Hts, Hat, Htd⟩, Hs, Hd⟩ Hw
  ihave Hb := (known_d m ρ c (k := 2 * i) (v := τ') (by omega) hτ) $$ Hk
  ihave Hb' := (known_d m ρ (pl c (τ' + 1)) (k := 2 * i + 1) (v := 6 - τ') (by omega) (by omega)) $$ Hk
  unfold knownD
  icases Hb with ⟨⟨%κ, #HI⟩, #HR⟩
  icases Hb' with ⟨⟨%κ', #HI'⟩, #HR'⟩
  ihave Hs' := (hold_slice (inb := inb)) $$ Hs
  icases Hs' with ⟨%f, Hs, %hf⟩
  ihave Hd' := (some_slice (inb := inb')) $$ Hd
  icases Hd' with ⟨%fd, Hd⟩
  have h1 : (bs.view.loc (c : Thread nD τ) ↦[(bs.view.slice (rect R 512 48 lo inb)).set]{fullShare} f : sProp 𝕄) ⊢ (Rd m ρ).payload (dcell c (2 * i) τ') 0 0 := by
    rw [payload_d m ρ c (by omega) hτ, hp]; exact slice_hold hf
  have h2 : (bd.view.loc (pl c (τ' + 1) : Thread nD τ) ↦[(bd.view.slice (rect R' 512 48 lo' inb')).set]{fullShare}
      (bd.view.slice (rect R' 512 48 lo' inb')).write (Elt F) fd ((bs.view.slice (rect R 512 48 lo inb)).read (Elt F) f) Finset.univ : sProp 𝕄)
      ⊢ (Rd m ρ).payload (dcell (pl c (τ' + 1)) (2 * i + 1) (6 - τ')) 0 0 := by
    rw [payload_d m ρ _ (by omega) (by omega), hp']
    exact written_hold (hf.trans (funext fun x => congrFun (hG _ (x 0).isLt) _))
  have h3 := duties_d m ρ c (k := 2 * i) (v := τ') (by omega) hτ
  have h4 := duties_d m ρ (pl c (τ' + 1)) (k := 2 * i + 1) (v := 6 - τ') (by omega) (by omega)
  have h5 : owed c n = owed c (n + 1) + tallyAt (dcell (pl c (τ' + 1)) (2 * i + 1) (6 - τ')) ι N := by rw [owed_succ c hn, hdue]
  have h6 := wp_send_core (Q := Q) (k := k) (κ := κ) (κ' := κ') (W := W) m ρ c (pl c (τ' + 1)) (src := bs.slice (rect R 512 48 lo inb) hr) (dst := bd.slice (rect R' 512 48 lo' inb') hr')
    (qS := ds (2 * i) τ') (qD := ds (2 * i + 1) (6 - τ'))
    (by rw [h3]; exact Finset.mem_singleton_self _) (by rw [h4]; exact Finset.mem_singleton_self _) ι n hN h5 h1 h2
    (hsc := hsc) (hsrc := hsrc) (hdst := hdst) (hsem := hsem)
  iapply h6 $$ [HO Hts Htd Hs Hd]
  · isplitr; · iexact HI
    isplitr; · iexact HI'
    isplitl [Hs]; · iexact Hs
    isplitl [Hd]; · iexact Hd
    isplitl [HO]; · iexact HO
    isplitl [Hts]; · iexact Hts
    isplitr; · iexact HR
    isplitl [Htd]; · iexact Htd
    iexact HR'
  iintro ⟨Hc, HO⟩
  iapply Hw
  isplitl [HO]; · iexists W; iexact HO
  isplitl [Hat]; · iexact Hat
  iexact Hc

end Steps

end Cert.KernelIdeal.Run

end
-- ==== Proof.KernelIdealContents.lean ====
/-
# What each store leaves

Every array the kernel stores into a scratch buffer, and every block a transfer lands, is a block of rows of the
buffer's contents.
-/
module

public import proofs.«01_k».proof.Proof.KernelIdealCells
public import Idealize.ShloMosaic.Lib.Pipeline.Value

@[expose] public section

noncomputable section

namespace Cert.KernelIdeal.Run

open Cert.KernelIdeal Cert.KernelIdeal.Gen Cert.Rows

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 eq_ix2)
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ) (ρ : Dev nD → PrngReg)

section Contents
variable (c : Dev nD)

/-! ## The dispatch matrix -/

theorem PALL_A (x : S384x512.Idx) : PA m ρ c x = PALL m ρ c (96 + (x 0).val) (x 1) := by
  have h : (x 0).val < 384 := (x 0).isLt
  unfold PALL
  rw [if_neg (by omega), if_pos (by omega), Nat.add_sub_cancel_left]
  exact (rowOf_val (n := 384) (by decide) _ x).symm

theorem PALL_B (x : S288x512.Idx) : PB m ρ c x = PALL m ρ c (480 + (x 0).val) (x 1) := by
  have h : (x 0).val < 288 := (x 0).isLt
  unfold PALL
  rw [if_neg (by omega), if_neg (by omega), Nat.add_sub_cancel_left]
  exact (rowOf_val (n := 288) (by decide) _ x).symm

theorem PALL_C (x : S96x512.Idx) : PC m ρ c x = PALL m ρ c (0 + (x 0).val) (x 1) := by
  have h : (x 0).val < 96 := (x 0).isLt
  unfold PALL
  rw [if_pos (by omega), Nat.zero_add]
  exact (rowOf_val (n := 96) (by decide) _ x).symm

/-! ## The tokens dispatched -/

theorem DS_row (t r : ℕ) (hr : r < 96) (k : Fin 512) :
    DS m ρ c (96 * t + r) k = k0_pay13 (XB m ρ c) (block 96 (96 * t) (PALL m ρ c)) (ix2 ⟨r, hr⟩ k) := by
  unfold DS
  rw [show (96 * t + r) / 96 = t by omega]
  unfold rowOf
  exact congrArg (fun a => k0_pay13 (XB m ρ c) (block 96 (96 * t) (PALL m ρ c)) (ix2 a k)) (Fin.ext (by show (96 * t + r) % 96 = r; omega))

theorem DS_store (t : ℕ) (x : S96x512.Idx) :
    k0_pay13 (XB m ρ c) (block 96 (96 * t) (PALL m ρ c)) x = DS m ρ c (96 * t + (x 0).val) (x 1) := by
  rw [DS_row m ρ c t (x 0).val (x 0).isLt (x 1)]
  exact congrArg _ (eq_ix2 x)

/-! ## The tokens received -/

theorem XIN_land (j τ' x : ℕ) (hj : j < 2) (h : τ' < 7) (hx : x < 48) :
    DS m ρ c (96 * (τ' + 1) + 48 * j + x) = XIN m ρ (pl c (τ' + 1)) j (48 * (6 - τ') + x) := by
  unfold XIN
  rw [pl_pl, pl_of_dvd c (t := τ' + 1 + ((48 * (6 - τ') + x) / 48 + 1)) (by omega)]
  congr 1; omega

theorem XIN_self (j x : ℕ) (hj : j < 2) (hx : x < 48) (k : Fin 512) :
    k0_pay13 (XB m ρ c) (block 96 0 (PALL m ρ c)) (ix2 ⟨48 * j + x, by omega⟩ k) = XIN m ρ c j (336 + x) k := by
  unfold XIN
  rw [pl_of_dvd c (t := (336 + x) / 48 + 1) (by omega), show 48 * (2 * (7 - (336 + x) / 48) + j) + (336 + x) % 48 = 96 * 0 + (48 * j + x) by omega]
  exact (DS_row m ρ c 0 (48 * j + x) (by omega) k).symm

theorem XIN_self0 (x : S48x512.Idx) : k0_pay31 (XB m ρ c) (block 96 0 (PALL m ρ c)) x = XIN m ρ c 0 (336 + (x 0).val) (x 1) := by
  rw [← XIN_self m ρ c 0 (x 0).val (by decide) (x 0).isLt (x 1)]
  unfold k0_pay31 k0_pay30 k0_pay13
  rw [shapeCast_self, shapeCast_self]
  refine extractStridedSlice_apply _ _ _ _ _ fun a => ?_
  fin_cases a
  · show 48 * 0 + (x 0).val = 0 + (x 0).val; omega
  · show (x 1).val = 0 + (x 1).val; omega

theorem XIN_self1 (x : S48x512.Idx) : k0_pay32 (XB m ρ c) (block 96 0 (PALL m ρ c)) x = XIN m ρ c 1 (336 + (x 0).val) (x 1) := by
  rw [← XIN_self m ρ c 1 (x 0).val (by decide) (x 0).isLt (x 1)]
  unfold k0_pay32 k0_pay30 k0_pay13
  rw [shapeCast_self, shapeCast_self]
  refine extractStridedSlice_apply _ _ _ _ _ fun a => ?_
  fin_cases a
  · show 48 * 1 + (x 0).val = 48 + (x 0).val; omega
  · show (x 1).val = 0 + (x 1).val; omega

/-! ## The experts' results -/

theorem YE_store (j h : ℕ) (x : S192x512.Idx) :
    k0_pay35 (block 192 (192 * h) (XIN m ρ c j)) (w1e m ρ c j) (w2e m ρ c j) x = YE m ρ c j (192 * h + (x 0).val) (x 1) := by
  have hx : (x 0).val < 192 := (x 0).isLt
  unfold YE
  rw [show (192 * h + (x 0).val) / 192 = h by omega]
  unfold rowOf
  have h0 : (⟨(192 * h + (x 0).val) % 192, Nat.mod_lt _ (by decide)⟩ : Fin 192) = x 0 := Fin.ext (by show (192 * h + (x 0).val) % 192 = _; omega)
  rw [h0]
  exact congrArg _ (eq_ix2 x)

/-! ## The results returned -/

theorem YRET_land (j τ' x : ℕ) (hj : j < 2) (h : τ' < 7) (hx : x < 48) :
    YE m ρ c j (48 * τ' + x) = YRET m ρ (pl c (τ' + 1)) (96 * (7 - τ') + 48 * j + x) := by
  unfold YRET
  rw [pl_pl, pl_of_dvd c (t := τ' + 1 + (96 * (7 - τ') + 48 * j + x) / 96) (by omega),
    show (96 * (7 - τ') + 48 * j + x) / 48 % 2 = j by omega]
  congr 1; omega

theorem YRET_self (j x : ℕ) (hj : j < 2) (hx : x < 48) : YE m ρ c j (336 + x) = YRET m ρ c (48 * j + x) := by
  unfold YRET
  rw [pl_of_dvd c (t := (48 * j + x) / 96) (by omega), show (48 * j + x) / 48 % 2 = j by omega]
  congr 1; omega

theorem YRET_self0 (x : S48x512.Idx) : k0_pay41 (block 48 336 (YE m ρ c 0)) x = YRET m ρ c (0 + (x 0).val) (x 1) := by
  unfold k0_pay41
  rw [shapeCast_self]
  exact congrFun ((YRET_self m ρ c 0 (x 0).val (by decide) (x 0).isLt).trans (by rw [Nat.mul_zero])) _

theorem YRET_self1 (x : S48x512.Idx) : k0_pay42 (block 48 336 (YE m ρ c 1)) x = YRET m ρ c (48 + (x 0).val) (x 1) := by
  unfold k0_pay42
  rw [shapeCast_self]
  exact congrFun ((YRET_self m ρ c 1 (x 0).val (by decide) (x 0).isLt).trans (by rw [Nat.mul_one])) _

end Contents

end Cert.KernelIdeal.Run

end
-- ==== Proof.KernelIdealMoves.lean ====
/-
# The kernel's steps on its own buffers

Each load, store, transfer and wait of the kernel as a step over the scratch buffer and the semaphore it names.
-/
module

public import proofs.«01_k».proof.Proof.KernelIdealSteps
public import proofs.«01_k».proof.Proof.KernelIdealContents

@[expose] public section

noncomputable section

namespace Cert.KernelIdeal.Run

open Cert.KernelIdeal Cert.KernelIdeal.Gen Cert.Rows

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ) (ρ : Dev nD → PrngReg)

/-- What the program does after a step, run on device `c`. -/
abbrev run {α : Type} (Q : α → sProp (MT nD τ sig ℕ (Elt F) ℕ UU ℕ)) (c : Dev nD) (p : Prog (TpuEff nD τ sig (Elt F) Λ₀ .tc) α) :
    sProp (MT nD τ sig ℕ (Elt F) ℕ UU ℕ) := wp frame (wpE (defs₀ (F := F)) 𝒱₀ (c : Thread nD τ) none) Set.univ p Q

/-- The landing places of device `d`'s transfers over distance `σ + 1`. -/
def LX0 (d : Dev nD) (σ : ℕ) : sProp 𝕄 := some' bX0 (pl d (σ + 1)) (48 * (6 - σ)) (48 * (6 - σ) + 48)
def LX1 (d : Dev nD) (σ : ℕ) : sProp 𝕄 := some' bX1 (pl d (σ + 1)) (48 * (6 - σ)) (48 * (6 - σ) + 48)
def LY0 (d : Dev nD) (σ : ℕ) : sProp 𝕄 := some' bYr (pl d (σ + 1)) (96 * (7 - σ)) (96 * (7 - σ) + 48)
def LY1 (d : Dev nD) (σ : ℕ) : sProp 𝕄 := some' bYr (pl d (σ + 1)) (96 * (7 - σ) + 48) (96 * (7 - σ) + 48 + 48)

theorem peer_eq (d : Dev nD) (σ : ℕ) : (peer d σ : sProp 𝕄) = iprop(LX0 d σ ∗ LX1 d σ ∗ LY0 d σ ∗ LY1 d σ) := rfl

/-- The value of a transfer semaphore after its wait. -/
def Z (c : Dev nD) (k v : ℕ) : sProp 𝕄 := semVal (dcell c k v) 0

theorem credit_eq (b : Memref sig .tc .vmem S48x512 .bf16) : b.view.dmaCredit = N := rfl

section Moves
variable {α : Type} {Q : α → sProp (MT nD τ sig ℕ (Elt F) ℕ UU ℕ)} (c : Dev nD)

section Access
variable {R : ℕ} {b : Memref sig .tc .vmem ⟨2, ![R, 512]⟩ .bf16}

theorem ld (a d lo n : ℕ) (h0 : a ≤ lo) (h1 : lo + n ≤ d) {G : ℕ → Fin 512 → Elt F .bf16}
    {inb : ∀ i, (![lo, 0] : Fin 2 → ℕ) i + (![n, 512] : Fin 2 → ℕ) i ≤ (⟨2, ![R, 512]⟩ : Shape).size i}
    {hl : b.view.LoadsAt (rect R 512 n lo inb).toLoadRect} {k : ((rect R 512 n lo inb).toLoadRect.shape.Idx → Elt F .bf16) → Prog (TpuEff nD τ sig (Elt F) Λ₀ .tc) α} :
    hold' b c a d G ⊢ iprop((hold' b c a d G -∗ run Q c (k (block n lo G))) -∗ run Q c (.op (.load b (rect R 512 n lo inb).toLoadRect hl) k)) :=
  wp_load_rows h0 h1

theorem ld_any (a d lo n : ℕ) (h0 : a ≤ lo) (h1 : lo + n ≤ d)
    {inb : ∀ i, (![lo, 0] : Fin 2 → ℕ) i + (![n, 512] : Fin 2 → ℕ) i ≤ (⟨2, ![R, 512]⟩ : Shape).size i}
    {hl : b.view.LoadsAt (rect R 512 n lo inb).toLoadRect} {k : ((rect R 512 n lo inb).toLoadRect.shape.Idx → Elt F .bf16) → Prog (TpuEff nD τ sig (Elt F) Λ₀ .tc) α} :
    some' b c a d ⊢ iprop((∀ w, some' b c a d -∗ run Q c (k w)) -∗ run Q c (.op (.load b (rect R 512 n lo inb).toLoadRect hl) k)) :=
  wp_load_some h0 h1

theorem st (lo n : ℕ) {G : ℕ → Fin 512 → Elt F .bf16}
    {inb : ∀ i, (![lo, 0] : Fin 2 → ℕ) i + (![n, 512] : Fin 2 → ℕ) i ≤ (⟨2, ![R, 512]⟩ : Shape).size i}
    {w : (rect R 512 n lo inb).shape.Idx → Elt F .bf16} (hw : ∀ x, w x = G (lo + (x 0).val) (x 1))
    {hx : (b.access (rect R 512 n lo inb)).Stores Finset.univ}
    {hm : (Finset.univ : Finset (rect R 512 n lo inb).shape.Idx) = Finset.univ ∨ ∀ i, (rect R 512 n lo inb).stride i = 1}
    {k : PUnit → Prog (TpuEff nD τ sig (Elt F) Λ₀ .tc) α} :
    some' b c lo (lo + n) ⊢ iprop((hold' b c lo (lo + n) G -∗ run Q c (k ⟨⟩)) -∗ run Q c (.op (.store b (rect R 512 n lo inb) w Finset.univ hx hm) k)) :=
  wp_store_rows hw

theorem join (lo mid hi : ℕ) (h : lo ≤ mid) (h' : mid ≤ hi) {G : ℕ → Fin 512 → Elt F .bf16} :
    hold' b c lo mid G ⊢ iprop(hold' b c mid hi G -∗ hold' b c lo hi G) := by
  iintro H H'
  iapply (hold_join h h') $$ [H H']
  isplitl [H]; · iexact H
  iexact H'

theorem join_any (lo mid hi : ℕ) (h : lo ≤ mid) (h' : mid ≤ hi) : (some' b c lo mid : sProp 𝕄) ⊢ iprop(some' b c mid hi -∗ some' b c lo hi) := by
  iintro H H'
  iapply (some_join h h') $$ [H H']
  isplitl [H]; · iexact H
  iexact H'

end Access

/-! ## Whole buffers -/

/-- A whole buffer at given contents. -/
def full {s : Shape} {e : EltTy} (b : Memref sig .tc .vmem s e) (c : Dev nD) (f : Buf (Elt F) (b.view.loc (c : Thread nD τ))) : sProp 𝕄 :=
  b.view.loc (c : Thread nD τ) ↦[Finset.univ]{fullShare} f

theorem zero1 : (![0] : Fin 1 → ℕ) = fun _ => 0 := by decide
theorem zero2 : (![0, 0] : Fin 2 → ℕ) = fun _ => 0 := by decide
theorem zero3 : (![0, 0, 0] : Fin 3 → ℕ) = fun _ => 0 := by decide

section Full
variable {s : Shape} {e : EltTy} {b : Memref sig .tc .vmem s e}

theorem ld_full {f : Buf (Elt F) (b.view.loc (c : Thread nD τ))} {r : LoadRect s} {g : r.shape.Idx → Elt F e} (h : b.view.readAt (Elt F) r f = g)
    {hl : b.view.LoadsAt r} {k : (r.shape.Idx → Elt F e) → Prog (TpuEff nD τ sig (Elt F) Λ₀ .tc) α} :
    full b c f ⊢ iprop((full b c f -∗ run Q c (k g)) -∗ run Q c (.op (.load b r hl) k)) := by
  subst h
  unfold full
  exact wp_load 𝒱₀ (c : Thread nD τ) none Set.univ (Finset.subset_univ _)

theorem ld_full_any {r : LoadRect s} {hl : b.view.LoadsAt r} {k : (r.shape.Idx → Elt F e) → Prog (TpuEff nD τ sig (Elt F) Λ₀ .tc) α} :
    iprop(∃ f, full b c f) ⊢ iprop((∀ w, (∃ f, full b c f) -∗ run Q c (k w)) -∗ run Q c (.op (.load b r hl) k)) := by
  iintro ⟨%f, H⟩ Hw
  iapply (ld_full c (f := f) rfl) $$ H
  iintro H
  iapply Hw $$ [H]
  iexists f; iexact H

theorem st_full {r : Rect s} {w : r.shape.Idx → Elt F e} {g : Buf (Elt F) ((b.access r).loc (c : Thread nD τ))}
    (h : ∀ f, (b.access r).write (Elt F) f w Finset.univ = g) {hx : (b.access r).Stores Finset.univ}
    {hm : (Finset.univ : Finset r.shape.Idx) = Finset.univ ∨ ∀ i, r.stride i = 1} {k : PUnit → Prog (TpuEff nD τ sig (Elt F) Λ₀ .tc) α} :
    iprop(∃ f, full b c f) ⊢ iprop((full b c g -∗ run Q c (k ⟨⟩)) -∗ run Q c (.op (.store b r w Finset.univ hx hm) k)) := by
  unfold full
  iintro ⟨%f, H⟩ Hw
  iapply (wp_store 𝒱₀ (c : Thread nD τ) none Set.univ (m := b) (r := r) (S := Finset.univ) (f := f) (Finset.subset_univ _)) $$ [H]
  · iexact H
  rw [h f]
  iexact Hw

end Full

/-! ## Transfers -/

theorem due_d {τ' : ℕ} (hτ : τ' < 7) : due c (7 + 2 * τ') = tallyAt (dcell (pl c (τ' + 1)) 1 (6 - τ')) 2 N := by
  unfold due; rw [if_neg (by omega), if_pos (by omega), show (7 + 2 * τ' - 7) / 2 = τ' by omega, show (7 + 2 * τ' - 7) % 2 = 0 by omega]
theorem due_d' {τ' : ℕ} (hτ : τ' < 7) : due c (8 + 2 * τ') = tallyAt (dcell (pl c (τ' + 1)) 3 (6 - τ')) 2 N := by
  unfold due; rw [if_neg (by omega), if_pos (by omega), show (8 + 2 * τ' - 7) / 2 = τ' by omega, show (8 + 2 * τ' - 7) % 2 = 1 by omega]
theorem due_r {τ' : ℕ} (hτ : τ' < 7) : due c (21 + 2 * τ') = tallyAt (dcell (pl c (τ' + 1)) 5 (6 - τ')) 3 N := by
  unfold due; rw [if_neg (by omega), if_neg (by omega), show (21 + 2 * τ' - 21) / 2 = τ' by omega, show (21 + 2 * τ' - 21) % 2 = 0 by omega]
theorem due_r' {τ' : ℕ} (hτ : τ' < 7) : due c (22 + 2 * τ') = tallyAt (dcell (pl c (τ' + 1)) 7 (6 - τ')) 3 N := by
  unfold due; rw [if_neg (by omega), if_neg (by omega), show (22 + 2 * τ' - 21) / 2 = τ' by omega, show (22 + 2 * τ' - 21) % 2 = 1 by omega]

/-- A device number the kernel computes is the device `t` steps ahead. -/
theorem pl_of (c : Dev nD) {n t : ℕ} {h : n < nD} (e : n = (c.val + t) % 8) : (⟨n, h⟩ : Dev nD) = pl c t := Fin.ext e

/-- A signal. -/
theorem signal (τ' : ℕ) {c' : Dev nD} (hc : c' = pl c (τ' + 1)) (h : τ' < 7) {k : PUnit → Prog (TpuEff nD τ sig (Elt F) Λ₀ .tc) α} :
    known m ρ ⊢ iprop(own c τ' -∗ btok (pl c (τ' + 1)) (6 - τ') -∗ mine c τ' -∗ (own c (τ' + 1) -∗ run Q c (k ⟨⟩))
      -∗ run Q c (.op (.semSignal (c' : Thread nD τ) bar 1) k)) := by
  subst hc
  iintro #Hk HO Ht Hm Hw
  iapply (step_signal m ρ c τ' rfl h) $$ [HO Ht Hm]
  · isplitr; · iexact Hk
    isplitl [HO]; · iexact HO
    isplitl [Ht]; · iexact Ht
    iexact Hm
  iexact Hw

/-- A dispatch transfer of the first stream. -/
theorem send_d0 (τ' n lo lo' v' : ℕ) (hτ : τ' < 7) (hn : n = 7 + 2 * τ') (hlo : lo = 96 * (τ' + 1)) (hlo' : lo' = 48 * (6 - τ')) (hv' : v' = 6 - τ') {c' : Dev nD} (hc : c' = pl c (τ' + 1))
    {inb : ∀ i, (![lo, 0] : Fin 2 → ℕ) i + (![48, 512] : Fin 2 → ℕ) i ≤ (⟨2, ![768, 512]⟩ : Shape).size i}
    {inb' : ∀ i, (![lo', 0] : Fin 2 → ℕ) i + (![48, 512] : Fin 2 → ℕ) i ≤ (⟨2, ![384, 512]⟩ : Shape).size i}
    {h₁ : ∀ a, (![τ'] : Fin 1 → ℕ) a + S1.size a ≤ S7.size a} {h₂ : ∀ a, (![v'] : Fin 1 → ℕ) a + S1.size a ≤ S7.size a} {q₁ q₂ : S1.Squeezes S_}
    {hr : ∀ a, (rect 768 512 48 lo inb).stride a = 1} {hr' : ∀ a, (rect 384 512 48 lo' inb').stride a = 1}
    {hsc : (bX0.slice (rect 384 512 48 lo' inb') hr' : Memref sig (Dev.tc c' : Thread nD τ).2.kind .vmem S48x512 .bf16).view.ref.isScScratch = false}
    {hsrc : (bDs.slice (rect 768 512 48 lo inb) hr : Memref sig .tc .vmem S48x512 .bf16).view.WordExact}
    {hdst : (bX0.slice (rect 384 512 48 lo' inb') hr' : Memref sig .tc .vmem S48x512 .bf16).view.WordExact}
    {hsem : DmaTarget.Typed .vmem (.dma ((cc0_scratch10.slice (Rect.unit (s := S7) ![v'] S1.size h₂)).squeeze S_ q₂).sem) (.remote (Dev.tc c' : Thread nD τ) (bX0.slice (rect 384 512 48 lo' inb') hr' : Memref sig .tc .vmem S48x512 .bf16) (.dma ((cc0_scratch9.slice (Rect.unit (s := S7) ![τ'] S1.size h₁)).squeeze S_ q₁).sem) hsc)}
    {k : PUnit → Prog (TpuEff nD τ sig (Elt F) Λ₀ .tc) α} :
    known m ρ ⊢ iprop(own c n -∗ Out c 0 τ' -∗ hold' bDs c lo (lo + 48) (DS m ρ c) -∗ LX0 c τ' -∗ (own c (n + 1) -∗ Wt c 0 0 τ' -∗ run Q c (k ⟨⟩))
      -∗ run Q c (.op (.enqueueDma (bDs.slice (rect 768 512 48 lo inb) hr : Memref sig .tc .vmem S48x512 .bf16)
            (.remote (Dev.tc c' : Thread nD τ) (bX0.slice (rect 384 512 48 lo' inb') hr' : Memref sig .tc .vmem S48x512 .bf16) (.dma ((cc0_scratch9.slice (Rect.unit (s := S7) ![τ'] S1.size h₁)).squeeze S_ q₁).sem) hsc)
            (.dma ((cc0_scratch10.slice (Rect.unit (s := S7) ![v'] S1.size h₂)).squeeze S_ q₂).sem) hsrc hdst hsem) k)) := by
  subst hn hlo hlo' hv' hc
  unfold LX0
  iintro #Hk HO Hout Hs Hd Hw
  have h6 := step_send (Q := Q) (k := k) m ρ c 0 τ' (7 + 2 * τ') 2 (by decide) hτ (by omega) rfl (due_d c hτ) sem9 sem10 (bs := bDs) (bd := bX0) (G := DS m ρ c) (G' := XIN m ρ (pl c (τ' + 1)) 0)
    (inb := inb) (inb' := inb') (hr := hr) (hr' := hr') rfl (rfl) (fun x hx => by have e := XIN_land m ρ c 0 τ' x (by decide) hτ hx; rwa [Nat.mul_zero, Nat.add_zero] at e) (credit_eq _) (hsc := hsc) (hsrc := hsrc) (hdst := hdst) (hsem := hsem)
  iapply h6 $$ [HO Hout Hs Hd]
  · isplitr; · iexact Hk
    isplitl [HO]; · iexact HO
    isplitl [Hout]; · iexact Hout
    isplitl [Hs]; · iexact Hs
    iexact Hd
  iintro ⟨HO, HW⟩
  iapply Hw $$ HO HW

/-- A dispatch transfer of the second stream. -/
theorem send_d1 (τ' n lo lo' v' : ℕ) (hτ : τ' < 7) (hn : n = 8 + 2 * τ') (hlo : lo = 96 * (τ' + 1) + 48) (hlo' : lo' = 48 * (6 - τ')) (hv' : v' = 6 - τ') {c' : Dev nD} (hc : c' = pl c (τ' + 1))
    {inb : ∀ i, (![lo, 0] : Fin 2 → ℕ) i + (![48, 512] : Fin 2 → ℕ) i ≤ (⟨2, ![768, 512]⟩ : Shape).size i}
    {inb' : ∀ i, (![lo', 0] : Fin 2 → ℕ) i + (![48, 512] : Fin 2 → ℕ) i ≤ (⟨2, ![384, 512]⟩ : Shape).size i}
    {h₁ : ∀ a, (![τ'] : Fin 1 → ℕ) a + S1.size a ≤ S7.size a} {h₂ : ∀ a, (![v'] : Fin 1 → ℕ) a + S1.size a ≤ S7.size a} {q₁ q₂ : S1.Squeezes S_}
    {hr : ∀ a, (rect 768 512 48 lo inb).stride a = 1} {hr' : ∀ a, (rect 384 512 48 lo' inb').stride a = 1}
    {hsc : (bX1.slice (rect 384 512 48 lo' inb') hr' : Memref sig (Dev.tc c' : Thread nD τ).2.kind .vmem S48x512 .bf16).view.ref.isScScratch = false}
    {hsrc : (bDs.slice (rect 768 512 48 lo inb) hr : Memref sig .tc .vmem S48x512 .bf16).view.WordExact}
    {hdst : (bX1.slice (rect 384 512 48 lo' inb') hr' : Memref sig .tc .vmem S48x512 .bf16).view.WordExact}
    {hsem : DmaTarget.Typed .vmem (.dma ((cc0_scratch12.slice (Rect.unit (s := S7) ![v'] S1.size h₂)).squeeze S_ q₂).sem) (.remote (Dev.tc c' : Thread nD τ) (bX1.slice (rect 384 512 48 lo' inb') hr' : Memref sig .tc .vmem S48x512 .bf16) (.dma ((cc0_scratch11.slice (Rect.unit (s := S7) ![τ'] S1.size h₁)).squeeze S_ q₁).sem) hsc)}
    {k : PUnit → Prog (TpuEff nD τ sig (Elt F) Λ₀ .tc) α} :
    known m ρ ⊢ iprop(own c n -∗ Out c 1 τ' -∗ hold' bDs c lo (lo + 48) (DS m ρ c) -∗ LX1 c τ' -∗ (own c (n + 1) -∗ Wt c 2 0 τ' -∗ run Q c (k ⟨⟩))
      -∗ run Q c (.op (.enqueueDma (bDs.slice (rect 768 512 48 lo inb) hr : Memref sig .tc .vmem S48x512 .bf16)
            (.remote (Dev.tc c' : Thread nD τ) (bX1.slice (rect 384 512 48 lo' inb') hr' : Memref sig .tc .vmem S48x512 .bf16) (.dma ((cc0_scratch11.slice (Rect.unit (s := S7) ![τ'] S1.size h₁)).squeeze S_ q₁).sem) hsc)
            (.dma ((cc0_scratch12.slice (Rect.unit (s := S7) ![v'] S1.size h₂)).squeeze S_ q₂).sem) hsrc hdst hsem) k)) := by
  subst hn hlo hlo' hv' hc
  unfold LX1
  iintro #Hk HO Hout Hs Hd Hw
  have h6 := step_send (Q := Q) (k := k) m ρ c 1 τ' (8 + 2 * τ') 2 (by decide) hτ (by omega) rfl (due_d' c hτ) sem11 sem12 (bs := bDs) (bd := bX1) (G := DS m ρ c) (G' := XIN m ρ (pl c (τ' + 1)) 1)
    (inb := inb) (inb' := inb') (hr := hr) (hr' := hr') rfl (rfl) (fun x hx => by have e := XIN_land m ρ c 1 τ' x (by decide) hτ hx; rwa [Nat.mul_one] at e) (credit_eq _) (hsc := hsc) (hsrc := hsrc) (hdst := hdst) (hsem := hsem)
  iapply h6 $$ [HO Hout Hs Hd]
  · isplitr; · iexact Hk
    isplitl [HO]; · iexact HO
    isplitl [Hout]; · iexact Hout
    isplitl [Hs]; · iexact Hs
    iexact Hd
  iintro ⟨HO, HW⟩
  iapply Hw $$ HO HW

/-- A return transfer of the first stream. -/
theorem send_r0 (τ' n lo lo' v' : ℕ) (hτ : τ' < 7) (hn : n = 21 + 2 * τ') (hlo : lo = 48 * τ') (hlo' : lo' = 96 * (7 - τ')) (hv' : v' = 6 - τ') {c' : Dev nD} (hc : c' = pl c (τ' + 1))
    {inb : ∀ i, (![lo, 0] : Fin 2 → ℕ) i + (![48, 512] : Fin 2 → ℕ) i ≤ (⟨2, ![384, 512]⟩ : Shape).size i}
    {inb' : ∀ i, (![lo', 0] : Fin 2 → ℕ) i + (![48, 512] : Fin 2 → ℕ) i ≤ (⟨2, ![768, 512]⟩ : Shape).size i}
    {h₁ : ∀ a, (![τ'] : Fin 1 → ℕ) a + S1.size a ≤ S7.size a} {h₂ : ∀ a, (![v'] : Fin 1 → ℕ) a + S1.size a ≤ S7.size a} {q₁ q₂ : S1.Squeezes S_}
    {hr : ∀ a, (rect 384 512 48 lo inb).stride a = 1} {hr' : ∀ a, (rect 768 512 48 lo' inb').stride a = 1}
    {hsc : (bYr.slice (rect 768 512 48 lo' inb') hr' : Memref sig (Dev.tc c' : Thread nD τ).2.kind .vmem S48x512 .bf16).view.ref.isScScratch = false}
    {hsrc : (bY0.slice (rect 384 512 48 lo inb) hr : Memref sig .tc .vmem S48x512 .bf16).view.WordExact}
    {hdst : (bYr.slice (rect 768 512 48 lo' inb') hr' : Memref sig .tc .vmem S48x512 .bf16).view.WordExact}
    {hsem : DmaTarget.Typed .vmem (.dma ((cc0_scratch14.slice (Rect.unit (s := S7) ![v'] S1.size h₂)).squeeze S_ q₂).sem) (.remote (Dev.tc c' : Thread nD τ) (bYr.slice (rect 768 512 48 lo' inb') hr' : Memref sig .tc .vmem S48x512 .bf16) (.dma ((cc0_scratch13.slice (Rect.unit (s := S7) ![τ'] S1.size h₁)).squeeze S_ q₁).sem) hsc)}
    {k : PUnit → Prog (TpuEff nD τ sig (Elt F) Λ₀ .tc) α} :
    known m ρ ⊢ iprop(own c n -∗ Out c 2 τ' -∗ hold' bY0 c lo (lo + 48) (YE m ρ c 0) -∗ LY0 c τ' -∗ (own c (n + 1) -∗ Wt c 4 0 τ' -∗ run Q c (k ⟨⟩))
      -∗ run Q c (.op (.enqueueDma (bY0.slice (rect 384 512 48 lo inb) hr : Memref sig .tc .vmem S48x512 .bf16)
            (.remote (Dev.tc c' : Thread nD τ) (bYr.slice (rect 768 512 48 lo' inb') hr' : Memref sig .tc .vmem S48x512 .bf16) (.dma ((cc0_scratch13.slice (Rect.unit (s := S7) ![τ'] S1.size h₁)).squeeze S_ q₁).sem) hsc)
            (.dma ((cc0_scratch14.slice (Rect.unit (s := S7) ![v'] S1.size h₂)).squeeze S_ q₂).sem) hsrc hdst hsem) k)) := by
  subst hn hlo hlo' hv' hc
  unfold LY0
  iintro #Hk HO Hout Hs Hd Hw
  have h6 := step_send (Q := Q) (k := k) m ρ c 2 τ' (21 + 2 * τ') 3 (by decide) hτ (by omega) rfl (due_r c hτ) sem13 sem14 (bs := bY0) (bd := bYr) (G := YE m ρ c 0) (G' := YRET m ρ (pl c (τ' + 1)))
    (inb := inb) (inb' := inb') (hr := hr) (hr' := hr') rfl (by show hold' _ _ (96 * (6 - τ' + 1)) (96 * (6 - τ' + 1) + 48) _ = _; rw [show 6 - τ' + 1 = 7 - τ' by omega]) (fun x hx => by have e := YRET_land m ρ c 0 τ' x (by decide) hτ hx; rwa [Nat.mul_zero, Nat.add_zero] at e) (credit_eq _) (hsc := hsc) (hsrc := hsrc) (hdst := hdst) (hsem := hsem)
  iapply h6 $$ [HO Hout Hs Hd]
  · isplitr; · iexact Hk
    isplitl [HO]; · iexact HO
    isplitl [Hout]; · iexact Hout
    isplitl [Hs]; · iexact Hs
    iexact Hd
  iintro ⟨HO, HW⟩
  iapply Hw $$ HO HW

/-- A return transfer of the second stream. -/
theorem send_r1 (τ' n lo lo' v' : ℕ) (hτ : τ' < 7) (hn : n = 22 + 2 * τ') (hlo : lo = 48 * τ') (hlo' : lo' = 96 * (7 - τ') + 48) (hv' : v' = 6 - τ') {c' : Dev nD} (hc : c' = pl c (τ' + 1))
    {inb : ∀ i, (![lo, 0] : Fin 2 → ℕ) i + (![48, 512] : Fin 2 → ℕ) i ≤ (⟨2, ![384, 512]⟩ : Shape).size i}
    {inb' : ∀ i, (![lo', 0] : Fin 2 → ℕ) i + (![48, 512] : Fin 2 → ℕ) i ≤ (⟨2, ![768, 512]⟩ : Shape).size i}
    {h₁ : ∀ a, (![τ'] : Fin 1 → ℕ) a + S1.size a ≤ S7.size a} {h₂ : ∀ a, (![v'] : Fin 1 → ℕ) a + S1.size a ≤ S7.size a} {q₁ q₂ : S1.Squeezes S_}
    {hr : ∀ a, (rect 384 512 48 lo inb).stride a = 1} {hr' : ∀ a, (rect 768 512 48 lo' inb').stride a = 1}
    {hsc : (bYr.slice (rect 768 512 48 lo' inb') hr' : Memref sig (Dev.tc c' : Thread nD τ).2.kind .vmem S48x512 .bf16).view.ref.isScScratch = false}
    {hsrc : (bY1.slice (rect 384 512 48 lo inb) hr : Memref sig .tc .vmem S48x512 .bf16).view.WordExact}
    {hdst : (bYr.slice (rect 768 512 48 lo' inb') hr' : Memref sig .tc .vmem S48x512 .bf16).view.WordExact}
    {hsem : DmaTarget.Typed .vmem (.dma ((cc0_scratch16.slice (Rect.unit (s := S7) ![v'] S1.size h₂)).squeeze S_ q₂).sem) (.remote (Dev.tc c' : Thread nD τ) (bYr.slice (rect 768 512 48 lo' inb') hr' : Memref sig .tc .vmem S48x512 .bf16) (.dma ((cc0_scratch15.slice (Rect.unit (s := S7) ![τ'] S1.size h₁)).squeeze S_ q₁).sem) hsc)}
    {k : PUnit → Prog (TpuEff nD τ sig (Elt F) Λ₀ .tc) α} :
    known m ρ ⊢ iprop(own c n -∗ Out c 3 τ' -∗ hold' bY1 c lo (lo + 48) (YE m ρ c 1) -∗ LY1 c τ' -∗ (own c (n + 1) -∗ Wt c 6 0 τ' -∗ run Q c (k ⟨⟩))
      -∗ run Q c (.op (.enqueueDma (bY1.slice (rect 384 512 48 lo inb) hr : Memref sig .tc .vmem S48x512 .bf16)
            (.remote (Dev.tc c' : Thread nD τ) (bYr.slice (rect 768 512 48 lo' inb') hr' : Memref sig .tc .vmem S48x512 .bf16) (.dma ((cc0_scratch15.slice (Rect.unit (s := S7) ![τ'] S1.size h₁)).squeeze S_ q₁).sem) hsc)
            (.dma ((cc0_scratch16.slice (Rect.unit (s := S7) ![v'] S1.size h₂)).squeeze S_ q₂).sem) hsrc hdst hsem) k)) := by
  subst hn hlo hlo' hv' hc
  unfold LY1
  iintro #Hk HO Hout Hs Hd Hw
  have h6 := step_send (Q := Q) (k := k) m ρ c 3 τ' (22 + 2 * τ') 3 (by decide) hτ (by omega) rfl (due_r' c hτ) sem15 sem16 (bs := bY1) (bd := bYr) (G := YE m ρ c 1) (G' := YRET m ρ (pl c (τ' + 1)))
    (inb := inb) (inb' := inb') (hr := hr) (hr' := hr') rfl (by show hold' _ _ (96 * (6 - τ' + 1) + 48) (96 * (6 - τ' + 1) + 48 + 48) _ = _; rw [show 6 - τ' + 1 = 7 - τ' by omega]) (fun x hx => by have e := YRET_land m ρ c 1 τ' x (by decide) hτ hx; rwa [Nat.mul_one] at e) (credit_eq _) (hsc := hsc) (hsrc := hsrc) (hdst := hdst) (hsem := hsem)
  iapply h6 $$ [HO Hout Hs Hd]
  · isplitr; · iexact Hk
    isplitl [HO]; · iexact HO
    isplitl [Hout]; · iexact Hout
    isplitl [Hs]; · iexact Hs
    iexact Hd
  iintro ⟨HO, HW⟩
  iapply Hw $$ HO HW

/-! ## Waits -/

/-- A wait for a transfer, handing over `P`. -/
theorem wait (k' ι v n : ℕ) (hk : k' < 8) (hv : v < 7) (hι : ι < bound n) {q : DmaSem sig} (hq : q = ds k' v)
    {P : sProp (MT nD τ sig ℕ (Elt F) ℕ UU ℕ)} (hp : dpay m ρ c k' v ⊢ P)
    {src dst : Memref sig .tc .vmem S48x512 .bf16} {hsrc : src.view.WordExact} {hdst : dst.view.WordExact}
    {k : PUnit → Prog (TpuEff nD τ sig (Elt F) Λ₀ .tc) α} :
    known m ρ ⊢ iprop(own c n -∗ Wt c k' ι v -∗ (own c n -∗ Z c k' v -∗ P -∗ run Q c (k ⟨⟩)) -∗ run Q c (.op (.waitDma2 q src dst hsrc hdst) k)) := by
  unfold Z
  iintro #Hk HO HW Hw
  iapply (step_wait m ρ c k' ι v n hk hv hι hq (credit_eq _)) $$ [HO HW]
  · isplitr; · iexact Hk
    isplitl [HO]; · iexact HO
    iexact HW
  iintro ⟨HO, Hz, Hp⟩
  iapply Hw $$ HO Hz [Hp]
  iapply hp; iexact Hp

end Moves

end Cert.KernelIdeal.Run

end
-- ==== Proof.KernelIdealBody1.lean ====
/-
# The kernel on its own buffers: building and dispatching

The parts of the kernel up to the last dispatch transfer, each run on the buffers the pipeline hands it.
-/
module

public import proofs.«01_k».proof.Proof.KernelIdealMoves

@[expose] public section

noncomputable section

namespace Cert.KernelIdeal.Run

open Cert.KernelIdeal Cert.KernelIdeal.Gen Cert.Rows

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ) (ρ : Dev nD → PrngReg)

set_option maxHeartbeats 1000000

abbrev bS0 : Memref sig .tc .vmem S512x512 .bf16 := Memref.whole cc0_stg0_0
abbrev bS1 : Memref sig .tc .vmem S512 .i32 := Memref.whole cc0_stg1_0
abbrev bS2 : Memref sig .tc .vmem S2x512x1024 .bf16 := Memref.whole cc0_stg2_0
abbrev bS3 : Memref sig .tc .vmem S2x1024x512 .bf16 := Memref.whole cc0_stg3_0
abbrev bS4 : Memref sig .tc .vmem S512x512 .f32 := Memref.whole cc0_stg4_0
abbrev bW1 : Memref sig .tc .vmem S2x512x1024 .bf16 := Memref.whole cc0_scratch7
abbrev bW2 : Memref sig .tc .vmem S2x1024x512 .bf16 := Memref.whole cc0_scratch8

/-- A part of the kernel on the buffers and semaphores it is called with. -/
abbrev call {β : Type 1} (f : (a0 : Memref sig .tc .vmem S512x512 .bf16) → a0.IsWhole → (a1 : Memref sig .tc .vmem S512 .i32) → a1.IsWhole → (a2 : Memref sig .tc .vmem S2x512x1024 .bf16) → a2.IsWhole → (a3 : Memref sig .tc .vmem S2x1024x512 .bf16) → a3.IsWhole → (a4 : Memref sig .tc .vmem S512x512 .f32) → a4.IsWhole → (a5 : Memref sig .tc .vmem S768x512 .bf16) → a5.IsWhole → (a6 : Memref sig .tc .vmem S768x512 .bf16) → a6.IsWhole → (a7 : Memref sig .tc .vmem S384x512 .bf16) → a7.IsWhole → (a8 : Memref sig .tc .vmem S384x512 .bf16) → a8.IsWhole → (a9 : Memref sig .tc .vmem S384x512 .bf16) → a9.IsWhole → (a10 : Memref sig .tc .vmem S384x512 .bf16) → a10.IsWhole → (a11 : Memref sig .tc .vmem S768x512 .bf16) → a11.IsWhole → (a12 : Memref sig .tc .vmem S2x512x1024 .bf16) → a12.IsWhole → (a13 : Memref sig .tc .vmem S2x1024x512 .bf16) → a13.IsWhole
    → DmaSems sig S7 → DmaSems sig S7 → DmaSems sig S7 → DmaSems sig S7 → DmaSems sig S7 → DmaSems sig S7 → DmaSems sig S7 → DmaSems sig S7 → β) : β :=
  f bS0 (Memref.isWhole_whole _) bS1 (Memref.isWhole_whole _) bS2 (Memref.isWhole_whole _) bS3 (Memref.isWhole_whole _) bS4 (Memref.isWhole_whole _) bPall (Memref.isWhole_whole _) bDs (Memref.isWhole_whole _) bX0 (Memref.isWhole_whole _) bX1 (Memref.isWhole_whole _) bY0 (Memref.isWhole_whole _) bY1 (Memref.isWhole_whole _) bYr (Memref.isWhole_whole _) bW1 (Memref.isWhole_whole _) bW2 (Memref.isWhole_whole _) cc0_scratch9 cc0_scratch10 cc0_scratch11 cc0_scratch12 cc0_scratch13 cc0_scratch14 cc0_scratch15 cc0_scratch16

section Parts
variable {α : Type} {Q : α → sProp (MT nD τ sig ℕ (Elt F) ℕ UU ℕ)} (c : Dev nD)

/-- The device number, and the first five signals. -/
theorem part1 {k : (Σ' (_ : Dev nD) (_ : BitVec 32) (_ : Sems sig S_) (_ : BitVec 32), BitVec 32) → Prog (TpuEff nD τ sig (Elt F) Λ₀ .tc) α} :
    known m ρ ⊢ iprop(own c 0 -∗ btok (pl c (0 + 1)) (6 - 0) -∗ mine c 0 -∗ btok (pl c (1 + 1)) (6 - 1) -∗ mine c 1 -∗ btok (pl c (2 + 1)) (6 - 2) -∗ mine c 2 -∗ btok (pl c (3 + 1)) (6 - 3) -∗ mine c 3 -∗ btok (pl c (4 + 1)) (6 - 4) -∗ mine c 4 -∗ (own c 5 -∗ run Q c (k ⟨c, idw c, SemArray.scalar (sig.barrier 0 rfl), Scalar.addi (idw c) 6#32, 8#32⟩)) -∗ run Q c (call (k0_part1 (F := F)) >>= k)) := by
  rw [k0_part1_eq_skeleton]
  unfold call k0_part1_skel
  simp only [semSignalWord, semWaitWord, Prog.lift, Prog.bind_op, Prog.bind_ret, Prog.pure_eq_ret, Prog.bind_assoc, wp_deviceId]
  iintro #Hk HO T0 M0 T1 M1 T2 M2 T3 M3 T4 M4 Hw
  iapply (signal m ρ c 0 (pl_of c (k0_dev1_eq c)) (by decide)) $$ Hk HO T0 M0
  iintro HO
  iapply (signal m ρ c 1 (pl_of c (k0_dev2_eq c)) (by decide)) $$ Hk HO T1 M1
  iintro HO
  iapply (signal m ρ c 2 (pl_of c (k0_dev3_eq c)) (by decide)) $$ Hk HO T2 M2
  iintro HO
  iapply (signal m ρ c 3 (pl_of c (k0_dev4_eq c)) (by decide)) $$ Hk HO T3 M3
  iintro HO
  iapply (signal m ρ c 4 (pl_of c (k0_dev5_eq c)) (by decide)) $$ Hk HO T4 M4
  iintro HO
  iapply Hw $$ HO

/-- The last two signals, the two arguments, and the wait on the barrier. -/
theorem part2 (v24 w : BitVec 32) {k : (Σ' (_ : FVec F S512x512 .bf16) (_ : FVec F S16x512 .f32) (_ : IVec S384x16 32) (_ : BitVec 32) (_ : IVec S384x16 32) (_ : IVec S384x16 32), IVec S384x16 32) → Prog (TpuEff nD τ sig (Elt F) Λ₀ .tc) α} :
    known m ρ ⊢ iprop(own c 5 -∗ btok (pl c (5 + 1)) (6 - 5) -∗ mine c 5 -∗ btok (pl c (6 + 1)) (6 - 6) -∗ mine c 6 -∗ full bS0 c (XS m ρ c) -∗ full bS1 c (AS m ρ c) -∗ atPos ER (barCell c) 0 ∅ 0 -∗ cred (tallyAt (barCell c) 1 7) -∗ (own c 7 -∗ semVal (barCell c) 0 -∗ peer c 0 -∗ peer c 1 -∗ peer c 2 -∗ peer c 3 -∗ peer c 4 -∗ peer c 5 -∗ peer c 6 -∗ full bS0 c (XS m ρ c) -∗ full bS1 c (AS m ρ c) -∗ run Q c (k ⟨XB m ρ c, CODE m ρ c, k0_pay3, 48#32, k0_pay4, k0_pay5, k0_pay6⟩)) -∗ run Q c (call (k0_part2 (F := F)) c (idw c) (SemArray.scalar (sig.barrier 0 rfl)) v24 w >>= k)) := by
  rw [k0_part2_eq_skeleton]
  unfold call k0_part2_skel
  simp only [semSignalWord, semWaitWord, Prog.lift, Prog.bind_op, Prog.bind_ret, Prog.pure_eq_ret, Prog.bind_assoc, wp_deviceId]
  iintro #Hk HO T5 M5 T6 M6 H0 H1 Hat Hc Hw
  iapply (signal m ρ c 5 (pl_of c (k0_dev6_eq c)) (by decide)) $$ Hk HO T5 M5
  iintro HO
  iapply (signal m ρ c 6 (pl_of c (k0_dev7_eq c)) (by decide)) $$ Hk HO T6 M6
  iintro HO
  iapply (ld_full c (b := bS1) (Memref.readAt_unit_zero (Elt F) cc0_stg1_0 zero1 _ _)) $$ H1
  iintro H1
  iapply (ld_full c (b := bS0) (Memref.readAt_unit_zero (Elt F) cc0_stg0_0 zero2 _ _)) $$ H0
  iintro H0
  iapply (step_bar m ρ c) $$ [HO Hat Hc]
  · isplitr; · iexact Hk
    isplitl [HO]; · iexact HO
    isplitl [Hat]; · iexact Hat
    iexact Hc
  iintro ⟨HO, Hz, P0, P1, P2, P3, P4, P5, P6⟩
  iapply Hw $$ HO Hz P0 P1 P2 P3 P4 P5 P6 H0 H1

/-- The first piece of the dispatch matrix is stored. -/
theorem part4 (v2 : BitVec 32) {k : (Σ' (_ : BitVec 32), FVec F S96x512 .bf16) → Prog (TpuEff nD τ sig (Elt F) Λ₀ .tc) α} :
    known m ρ ⊢ iprop(some' bPall c 96 480 -∗ (hold' bPall c 96 480 (PALL m ρ c) -∗ run Q c (k ⟨Scalar.remsi (Scalar.addi v2 1#32) 8#32, k0_pay11 (XB m ρ c) (block 96 96 (PALL m ρ c))⟩)) -∗ run Q c (call (k0_part4 (F := F)) v2 (XB m ρ c) (CODE m ρ c) (k0_pay7 k0_pay3 48#32 k0_pay4 k0_pay5 k0_pay6) (k0_pay8 (idw c) k0_pay3 48#32 k0_pay4 k0_pay5 k0_pay6) k0_pay9 >>= k)) := by
  rw [k0_part4_eq_skeleton]
  unfold call k0_part4_skel
  simp only [semSignalWord, semWaitWord, Prog.lift, Prog.bind_op, Prog.bind_ret, Prog.pure_eq_ret, Prog.bind_assoc, wp_deviceId]
  iintro #Hk HP Hw
  iapply (ld_any c 96 480 96 384 (by decide) (by decide)) $$ HP
  iintro %_ HP
  iapply (st c 96 384 (G := PALL m ρ c) (fun x => PALL_A m ρ c x)) $$ HP
  iintro HP
  iapply (ld c 96 480 96 96 (by decide) (by decide)) $$ HP
  iintro HP
  iapply Hw $$ HP

/-- The first block of tokens is stored and sent, and the second stored. -/
theorem part5 (v2 v147 : BitVec 32) {k : BitVec 32 → Prog (TpuEff nD τ sig (Elt F) Λ₀ .tc) α} :
    known m ρ ⊢ iprop(own c 7 -∗ hold' bPall c 96 480 (PALL m ρ c) -∗ some' bDs c 96 192 -∗ Out c 0 0 -∗ LX0 c 0 -∗ Out c 1 0 -∗ LX1 c 0 -∗ some' bDs c 192 288 -∗ (own c 9 -∗ hold' bPall c 96 480 (PALL m ρ c) -∗ Wt c 0 0 0 -∗ Wt c 2 0 0 -∗ hold' bDs c 192 (192 + 48) (DS m ρ c) -∗ hold' bDs c 240 (240 + 48) (DS m ρ c) -∗ run Q c (k (Scalar.remsi (Scalar.addi v2 2#32) 8#32))) -∗ run Q c (call (k0_part5 (F := F)) c v2 (XB m ρ c) v147 (k0_pay11 (XB m ρ c) (block 96 96 (PALL m ρ c))) >>= k)) := by
  rw [k0_part5_eq_skeleton]
  unfold call k0_part5_skel
  simp only [semSignalWord, semWaitWord, Prog.lift, Prog.bind_op, Prog.bind_ret, Prog.pure_eq_ret, Prog.bind_assoc, wp_deviceId]
  iintro #Hk HO HP HD Q0 X0 Q1 X1 HD2 Hw
  iapply (ld_any c 96 192 96 96 (by decide) (by decide)) $$ HD
  iintro %_ HD
  iapply (st c 96 96 (G := DS m ρ c) (fun x => DS_store m ρ c 1 x)) $$ HD
  iintro HD
  ihave Hx := (hold_split (lo := 96) (mid := 144) (hi := 192) (by decide) (by decide)) $$ HD
  icases Hx with ⟨D0, D1⟩
  iapply (send_d0 m ρ c 0 7 96 288 6 (by decide) rfl rfl rfl rfl (pl_of c (k0_dev8_eq c))) $$ Hk HO Q0 D0 X0
  iintro HO W0
  iapply (send_d1 m ρ c 0 8 144 288 6 (by decide) rfl rfl rfl rfl (pl_of c (k0_dev9_eq c))) $$ Hk HO Q1 D1 X1
  iintro HO W1
  iapply (ld c 96 480 192 96 (by decide) (by decide)) $$ HP
  iintro HP
  irename HD2 => HD
  iapply (ld_any c 192 288 192 96 (by decide) (by decide)) $$ HD
  iintro %_ HD
  iapply (st c 192 96 (G := DS m ρ c) (fun x => DS_store m ρ c 2 x)) $$ HD
  iintro HD
  ihave Hx := (hold_split (lo := 192) (mid := 240) (hi := 288) (by decide) (by decide)) $$ HD
  icases Hx with ⟨D0, D1⟩
  iapply Hw $$ HO HP W0 W1 D0 D1

/-- The first rank test is computed. -/
theorem part3 {k : (Σ' (_ : IVec S384x16 32) (_ : IVec S384x16 32), IVec S384x16 32) → Prog (TpuEff nD τ sig (Elt F) Λ₀ .tc) α} :
    (call (k0_part3 (F := F)) (idw c) k0_pay3 48#32 k0_pay4 k0_pay5 k0_pay6 >>= k) = k ⟨k0_pay7 k0_pay3 48#32 k0_pay4 k0_pay5 k0_pay6, k0_pay8 (idw c) k0_pay3 48#32 k0_pay4 k0_pay5 k0_pay6, k0_pay9⟩ := rfl

/-- The second rank test is computed. -/
theorem part9 (a : IVec S288x16 32) (b : BitVec 32) (d e : IVec S288x16 32) (f : BitVec 32) (g : BitVec 1) {k : IVec S288x512 1 → Prog (TpuEff nD τ sig (Elt F) Λ₀ .tc) α} :
    (call (k0_part9 (F := F)) (idw c) (CODE m ρ c) a b d e f g >>= k) = k (k0_pay19 (idw c) (CODE m ρ c) a b d e f g) := rfl

/-- The third rank test is computed. -/
theorem part13 (a : IVec S96x16 32) (b : BitVec 32) (d e : IVec S96x16 32) (f : BitVec 32) (g : BitVec 1) {k : IVec S96x16 32 → Prog (TpuEff nD τ sig (Elt F) Λ₀ .tc) α} :
    (call (k0_part13 (F := F)) (idw c) a b d e f g >>= k) = k (k0_pay28 (idw c) a b d e f g) := rfl

/-- The second block is sent, the third stored. -/
theorem part6 (v2 w : BitVec 32) {k : BitVec 32 → Prog (TpuEff nD τ sig (Elt F) Λ₀ .tc) α} :
    known m ρ ⊢ iprop(own c 9 -∗ hold' bPall c 96 480 (PALL m ρ c) -∗ hold' bDs c 192 (192 + 48) (DS m ρ c) -∗ Out c 0 1 -∗ LX0 c 1 -∗ hold' bDs c 240 (240 + 48) (DS m ρ c) -∗ Out c 1 1 -∗ LX1 c 1 -∗ some' bDs c 288 384 -∗ (own c 11 -∗ hold' bPall c 96 480 (PALL m ρ c) -∗ Wt c 0 0 1 -∗ Wt c 2 0 1 -∗ hold' bDs c 288 (288 + 48) (DS m ρ c) -∗ hold' bDs c 336 (336 + 48) (DS m ρ c) -∗ run Q c (k (Scalar.remsi (Scalar.addi v2 3#32) 8#32))) -∗ run Q c (call (k0_part6 (F := F)) c v2 (XB m ρ c) w >>= k)) := by
  rw [k0_part6_eq_skeleton]
  unfold call k0_part6_skel
  simp only [semSignalWord, semWaitWord, Prog.lift, Prog.bind_op, Prog.bind_ret, Prog.pure_eq_ret, Prog.bind_assoc, wp_deviceId]
  iintro #Hk HO HP D0 Q0 X0 D1 Q1 X1 HD Hw
  iapply (send_d0 m ρ c 1 9 192 240 5 (by decide) rfl rfl rfl rfl (pl_of c (k0_dev10_eq c))) $$ Hk HO Q0 D0 X0
  iintro HO W0
  iapply (send_d1 m ρ c 1 10 240 240 5 (by decide) rfl rfl rfl rfl (pl_of c (k0_dev11_eq c))) $$ Hk HO Q1 D1 X1
  iintro HO W1
  iapply (ld c 96 480 288 96 (by decide) (by decide)) $$ HP
  iintro HP
  iapply (ld_any c 288 384 288 96 (by decide) (by decide)) $$ HD
  iintro %_ HD
  iapply (st c 288 96 (G := DS m ρ c) (fun x => DS_store m ρ c 3 x)) $$ HD
  iintro HD
  ihave Hx := (hold_split (lo := 288) (mid := 336) (hi := 384) (by decide) (by decide)) $$ HD
  icases Hx with ⟨D0, D1⟩
  iapply Hw $$ HO HP W0 W1 D0 D1

/-- The third block is sent; the fourth is stored and its first half sent. -/
theorem part7 (v2 w : BitVec 32) {k : PUnit → Prog (TpuEff nD τ sig (Elt F) Λ₀ .tc) α} :
    known m ρ ⊢ iprop(own c 11 -∗ hold' bPall c 96 480 (PALL m ρ c) -∗ hold' bDs c 288 (288 + 48) (DS m ρ c) -∗ Out c 0 2 -∗ LX0 c 2 -∗ hold' bDs c 336 (336 + 48) (DS m ρ c) -∗ Out c 1 2 -∗ LX1 c 2 -∗ some' bDs c 384 480 -∗ Out c 0 3 -∗ LX0 c 3 -∗ (own c 14 -∗ hold' bPall c 96 480 (PALL m ρ c) -∗ Wt c 0 0 2 -∗ Wt c 2 0 2 -∗ Wt c 0 0 3 -∗ hold' bDs c 432 (432 + 48) (DS m ρ c) -∗ run Q c (k ⟨⟩)) -∗ run Q c (call (k0_part7 (F := F)) c v2 (XB m ρ c) w >>= k)) := by
  rw [k0_part7_eq_skeleton]
  unfold call k0_part7_skel
  simp only [semSignalWord, semWaitWord, Prog.lift, Prog.bind_op, Prog.bind_ret, Prog.pure_eq_ret, Prog.bind_assoc, wp_deviceId]
  iintro #Hk HO HP D0 Q0 X0 D1 Q1 X1 HD Q2 X2 Hw
  iapply (send_d0 m ρ c 2 11 288 192 4 (by decide) rfl rfl rfl rfl (pl_of c (k0_dev12_eq c))) $$ Hk HO Q0 D0 X0
  iintro HO W0
  iapply (send_d1 m ρ c 2 12 336 192 4 (by decide) rfl rfl rfl rfl (pl_of c (k0_dev13_eq c))) $$ Hk HO Q1 D1 X1
  iintro HO W1
  iapply (ld c 96 480 384 96 (by decide) (by decide)) $$ HP
  iintro HP
  iapply (ld_any c 384 480 384 96 (by decide) (by decide)) $$ HD
  iintro %_ HD
  iapply (st c 384 96 (G := DS m ρ c) (fun x => DS_store m ρ c 4 x)) $$ HD
  iintro HD
  ihave Hx := (hold_split (lo := 384) (mid := 432) (hi := 480) (by decide) (by decide)) $$ HD
  icases Hx with ⟨D0, D1⟩
  iapply (send_d0 m ρ c 3 13 384 144 3 (by decide) rfl rfl rfl rfl (pl_of c (k0_dev14_eq c))) $$ Hk HO Q2 D0 X2
  iintro HO W2
  iapply Hw $$ HO HP W0 W1 W2 D1

/-- The second half of the fourth block is sent. -/
theorem part8 {k : (Σ' (_ : IVec S288x16 32) (_ : BitVec 32) (_ : IVec S288x16 32) (_ : IVec S288x16 32) (_ : BitVec 32), BitVec 1) → Prog (TpuEff nD τ sig (Elt F) Λ₀ .tc) α} :
    known m ρ ⊢ iprop(own c 14 -∗ hold' bDs c 432 (432 + 48) (DS m ρ c) -∗ Out c 1 3 -∗ LX1 c 3 -∗ (own c 15 -∗ Wt c 2 0 3 -∗ run Q c (k ⟨k0_pay16, 2#32, k0_pay17, k0_pay18, Scalar.extui (Scalar.cmpi .sgt 2#32 0#32), Scalar.cmpi .slt 2#32 0#32⟩)) -∗ run Q c (call (k0_part8 (F := F)) c >>= k)) := by
  rw [k0_part8_eq_skeleton]
  unfold call k0_part8_skel
  simp only [semSignalWord, semWaitWord, Prog.lift, Prog.bind_op, Prog.bind_ret, Prog.pure_eq_ret, Prog.bind_assoc, wp_deviceId]
  iintro #Hk HO D1 Q1 X1 Hw
  iapply (send_d1 m ρ c 3 14 432 144 3 (by decide) rfl rfl rfl rfl (pl_of c (k0_dev15_eq c))) $$ Hk HO Q1 D1 X1
  iintro HO W1
  iapply Hw $$ HO W1

/-- The second piece of the dispatch matrix is stored; the fifth block is stored and sent. -/
theorem part10 (v2 : BitVec 32) {k : BitVec 32 → Prog (TpuEff nD τ sig (Elt F) Λ₀ .tc) α} :
    known m ρ ⊢ iprop(own c 15 -∗ some' bPall c 480 768 -∗ some' bDs c 480 576 -∗ Out c 0 4 -∗ LX0 c 4 -∗ Out c 1 4 -∗ LX1 c 4 -∗ (own c 17 -∗ hold' bPall c 480 768 (PALL m ρ c) -∗ Wt c 0 0 4 -∗ Wt c 2 0 4 -∗ run Q c (k 6#32)) -∗ run Q c (call (k0_part10 (F := F)) c v2 (XB m ρ c) (k0_pay19 (idw c) (CODE m ρ c) k0_pay16 2#32 k0_pay17 k0_pay18 (Scalar.extui (Scalar.cmpi .sgt 2#32 0#32)) (Scalar.cmpi .slt 2#32 0#32)) >>= k)) := by
  rw [k0_part10_eq_skeleton]
  unfold call k0_part10_skel
  simp only [semSignalWord, semWaitWord, Prog.lift, Prog.bind_op, Prog.bind_ret, Prog.pure_eq_ret, Prog.bind_assoc, wp_deviceId]
  iintro #Hk HO HP HD Q0 X0 Q1 X1 Hw
  iapply (ld_any c 480 768 480 288 (by decide) (by decide)) $$ HP
  iintro %_ HP
  iapply (st c 480 288 (G := PALL m ρ c) (fun x => PALL_B m ρ c x)) $$ HP
  iintro HP
  iapply (ld c 480 768 480 96 (by decide) (by decide)) $$ HP
  iintro HP
  iapply (ld_any c 480 576 480 96 (by decide) (by decide)) $$ HD
  iintro %_ HD
  iapply (st c 480 96 (G := DS m ρ c) (fun x => DS_store m ρ c 5 x)) $$ HD
  iintro HD
  ihave Hx := (hold_split (lo := 480) (mid := 528) (hi := 576) (by decide) (by decide)) $$ HD
  icases Hx with ⟨D0, D1⟩
  iapply (send_d0 m ρ c 4 15 480 96 2 (by decide) rfl rfl rfl rfl (pl_of c (k0_dev16_eq c))) $$ Hk HO Q0 D0 X0
  iintro HO W0
  iapply (send_d1 m ρ c 4 16 528 96 2 (by decide) rfl rfl rfl rfl (pl_of c (k0_dev17_eq c))) $$ Hk HO Q1 D1 X1
  iintro HO W1
  iapply Hw $$ HO HP W0 W1

/-- The sixth block is stored and sent, the seventh computed. -/
theorem part11 (v2 w : BitVec 32) {k : (Σ' (_ : BitVec 32), FVec F S96x512 .bf16) → Prog (TpuEff nD τ sig (Elt F) Λ₀ .tc) α} :
    known m ρ ⊢ iprop(own c 17 -∗ hold' bPall c 480 768 (PALL m ρ c) -∗ some' bDs c 576 672 -∗ Out c 0 5 -∗ LX0 c 5 -∗ Out c 1 5 -∗ LX1 c 5 -∗ (own c 19 -∗ hold' bPall c 480 768 (PALL m ρ c) -∗ Wt c 0 0 5 -∗ Wt c 2 0 5 -∗ run Q c (k ⟨Scalar.remsi (Scalar.addi v2 7#32) 8#32, k0_pay23 (XB m ρ c) (block 96 672 (PALL m ρ c))⟩)) -∗ run Q c (call (k0_part11 (F := F)) c v2 (XB m ρ c) w >>= k)) := by
  rw [k0_part11_eq_skeleton]
  unfold call k0_part11_skel
  simp only [semSignalWord, semWaitWord, Prog.lift, Prog.bind_op, Prog.bind_ret, Prog.pure_eq_ret, Prog.bind_assoc, wp_deviceId]
  iintro #Hk HO HP HD Q0 X0 Q1 X1 Hw
  iapply (ld c 480 768 576 96 (by decide) (by decide)) $$ HP
  iintro HP
  iapply (ld_any c 576 672 576 96 (by decide) (by decide)) $$ HD
  iintro %_ HD
  iapply (st c 576 96 (G := DS m ρ c) (fun x => DS_store m ρ c 6 x)) $$ HD
  iintro HD
  ihave Hx := (hold_split (lo := 576) (mid := 624) (hi := 672) (by decide) (by decide)) $$ HD
  icases Hx with ⟨D0, D1⟩
  iapply (send_d0 m ρ c 5 17 576 48 1 (by decide) rfl rfl rfl rfl (pl_of c (k0_dev18_eq c))) $$ Hk HO Q0 D0 X0
  iintro HO W0
  iapply (send_d1 m ρ c 5 18 624 48 1 (by decide) rfl rfl rfl rfl (pl_of c (k0_dev19_eq c))) $$ Hk HO Q1 D1 X1
  iintro HO W1
  iapply (ld c 480 768 672 96 (by decide) (by decide)) $$ HP
  iintro HP
  iapply Hw $$ HO HP W0 W1

/-- The seventh block is stored and sent. -/
theorem part12 (w : BitVec 32) {k : (Σ' (_ : IVec S96x16 32) (_ : BitVec 32) (_ : IVec S96x16 32) (_ : IVec S96x16 32) (_ : BitVec 32), BitVec 1) → Prog (TpuEff nD τ sig (Elt F) Λ₀ .tc) α} :
    known m ρ ⊢ iprop(own c 19 -∗ some' bDs c 672 768 -∗ Out c 0 6 -∗ LX0 c 6 -∗ Out c 1 6 -∗ LX1 c 6 -∗ (own c 21 -∗ Wt c 0 0 6 -∗ Wt c 2 0 6 -∗ run Q c (k ⟨k0_pay25, 48#32, k0_pay26, k0_pay27, Scalar.extui (Scalar.cmpi .sgt 48#32 0#32), Scalar.cmpi .slt 48#32 0#32⟩)) -∗ run Q c (call (k0_part12 (F := F)) c w (k0_pay23 (XB m ρ c) (block 96 672 (PALL m ρ c))) >>= k)) := by
  rw [k0_part12_eq_skeleton]
  unfold call k0_part12_skel
  simp only [semSignalWord, semWaitWord, Prog.lift, Prog.bind_op, Prog.bind_ret, Prog.pure_eq_ret, Prog.bind_assoc, wp_deviceId]
  iintro #Hk HO HD Q0 X0 Q1 X1 Hw
  iapply (ld_any c 672 768 672 96 (by decide) (by decide)) $$ HD
  iintro %_ HD
  iapply (st c 672 96 (G := DS m ρ c) (fun x => DS_store m ρ c 7 x)) $$ HD
  iintro HD
  ihave Hx := (hold_split (lo := 672) (mid := 720) (hi := 768) (by decide) (by decide)) $$ HD
  icases Hx with ⟨D0, D1⟩
  iapply (send_d0 m ρ c 6 19 672 0 0 (by decide) rfl rfl rfl rfl (pl_of c (k0_dev20_eq c))) $$ Hk HO Q0 D0 X0
  iintro HO W0
  iapply (send_d1 m ρ c 6 20 720 0 0 (by decide) rfl rfl rfl rfl (pl_of c (k0_dev21_eq c))) $$ Hk HO Q1 D1 X1
  iintro HO W1
  iapply Hw $$ HO W0 W1

/-- The last piece of the dispatch matrix is stored, and the device's own tokens are handed to its own experts. -/
theorem part14 {k : PUnit → Prog (TpuEff nD τ sig (Elt F) Λ₀ .tc) α} :
    known m ρ ⊢ iprop(some' bPall c 0 96 -∗ some' bX0 c 336 384 -∗ some' bX1 c 336 384 -∗ (hold' bPall c 0 96 (PALL m ρ c) -∗ hold' bX0 c 336 384 (XIN m ρ c 0) -∗ hold' bX1 c 336 384 (XIN m ρ c 1) -∗ run Q c (k ⟨⟩)) -∗ run Q c (call (k0_part14 (F := F)) (XB m ρ c) (CODE m ρ c) (k0_pay28 (idw c) k0_pay25 48#32 k0_pay26 k0_pay27 (Scalar.extui (Scalar.cmpi .sgt 48#32 0#32)) (Scalar.cmpi .slt 48#32 0#32)) >>= k)) := by
  rw [k0_part14_eq_skeleton]
  unfold call k0_part14_skel
  simp only [semSignalWord, semWaitWord, Prog.lift, Prog.bind_op, Prog.bind_ret, Prog.pure_eq_ret, Prog.bind_assoc, wp_deviceId]
  iintro #Hk HP X0 X1 Hw
  iapply (ld_any c 0 96 0 96 (by decide) (by decide)) $$ HP
  iintro %_ HP
  iapply (st c 0 96 (G := PALL m ρ c) (fun x => PALL_C m ρ c x)) $$ HP
  iintro HP
  iapply (ld c 0 96 0 96 (by decide) (by decide)) $$ HP
  iintro HP
  iapply (ld_any c 336 384 336 48 (by decide) (by decide)) $$ X0
  iintro %_ X0
  iapply (st c 336 48 (G := XIN m ρ c 0) (fun x => XIN_self0 m ρ c x)) $$ X0
  iintro X0
  iapply (ld_any c 336 384 336 48 (by decide) (by decide)) $$ X1
  iintro %_ X1
  iapply (st c 336 48 (G := XIN m ρ c 1) (fun x => XIN_self1 m ρ c x)) $$ X1
  iintro X1
  iapply Hw $$ HP X0 X1

end Parts

end Cert.KernelIdeal.Run

end
-- ==== Proof.KernelIdealBody2.lean ====
/-
# The kernel on its own buffers: experts and returns

The parts of the kernel from the weights to the last but one return transfer.
-/
module

public import proofs.«01_k».proof.Proof.KernelIdealBody1

@[expose] public section

noncomputable section

namespace Cert.KernelIdeal.Run

open Cert.KernelIdeal Cert.KernelIdeal.Gen Cert.Rows

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ) (ρ : Dev nD → PrngReg)

set_option maxHeartbeats 1000000

section Parts
variable {α : Type} {Q : α → sProp (MT nD τ sig ℕ (Elt F) ℕ UU ℕ)} (c : Dev nD)

/-- The weights are copied; the first dispatched blocks arrive. -/
theorem part15 (v2 : BitVec 32) {k : PUnit → Prog (TpuEff nD τ sig (Elt F) Λ₀ .tc) α} :
    known m ρ ⊢ iprop(own c 21 -∗ full bS2 c (W1S m ρ c) -∗ (∃ f, full bW1 c f) -∗ full bS3 c (W2S m ρ c) -∗ (∃ f, full bW2 c f) -∗ Wt c 1 2 0 -∗ Wt c 3 2 0 -∗ (own c 21 -∗ full bS2 c (W1S m ρ c) -∗ full bW1 c (W1B m ρ c) -∗ full bS3 c (W2S m ρ c) -∗ full bW2 c (W2B m ρ c) -∗ Z c 1 0 -∗ Z c 3 0 -∗ hold' bX0 c 0 48 (XIN m ρ c 0) -∗ hold' bX1 c 0 48 (XIN m ρ c 1) -∗ run Q c (k ⟨⟩)) -∗ run Q c (call (k0_part15 (F := F)) v2 >>= k)) := by
  rw [k0_part15_eq_skeleton]
  unfold call k0_part15_skel
  simp only [semSignalWord, semWaitWord, Prog.lift, Prog.bind_op, Prog.bind_ret, Prog.pure_eq_ret, Prog.bind_assoc, wp_deviceId]
  iintro #Hk HO H2 HA H3 HB V0 V1 Hw
  iapply (ld_full c (b := bS2) (Memref.readAt_unit_zero (Elt F) cc0_stg2_0 zero3 _ _)) $$ H2
  iintro H2
  iapply (ld_full_any c (b := bW1)) $$ HA
  iintro %_ HA
  iapply (st_full c (b := bW1) (g := W1B m ρ c) (fun f => Memref.write_access_unit_zero_univ (Elt F) cc0_scratch7 zero3 _ f _)) $$ HA
  iintro HA
  iapply (ld_full c (b := bS3) (Memref.readAt_unit_zero (Elt F) cc0_stg3_0 zero3 _ _)) $$ H3
  iintro H3
  iapply (ld_full_any c (b := bW2)) $$ HB
  iintro %_ HB
  iapply (st_full c (b := bW2) (g := W2B m ρ c) (fun f => Memref.write_access_unit_zero_univ (Elt F) cc0_scratch8 zero3 _ f _)) $$ HB
  iintro HB
  iapply (wait m ρ c 1 2 0 21 (by decide) (by decide) (by decide) sem10 (P := hold' bX0 c 0 48 (XIN m ρ c 0)) (Entails.of_eq rfl)) $$ Hk HO V0
  iintro HO Z0 X0
  iapply (wait m ρ c 3 2 0 21 (by decide) (by decide) (by decide) sem12 (P := hold' bX1 c 0 48 (XIN m ρ c 1)) (Entails.of_eq rfl)) $$ Hk HO V1
  iintro HO Z1 X1
  iapply Hw $$ HO H2 HA H3 HB Z0 Z1 X0 X1

/-- The next dispatched blocks arrive. -/
theorem part16 (v2 : BitVec 32) {k : PUnit → Prog (TpuEff nD τ sig (Elt F) Λ₀ .tc) α} :
    known m ρ ⊢ iprop(own c 21 -∗ hold' bX0 c 0 48 (XIN m ρ c 0) -∗ hold' bX1 c 0 48 (XIN m ρ c 1) -∗ Wt c 1 2 1 -∗ Wt c 3 2 1 -∗ Wt c 1 2 2 -∗ Wt c 3 2 2 -∗ (own c 21 -∗ hold' bX0 c 0 144 (XIN m ρ c 0) -∗ hold' bX1 c 0 144 (XIN m ρ c 1) -∗ Z c 1 1 -∗ Z c 3 1 -∗ Z c 1 2 -∗ Z c 3 2 -∗ run Q c (k ⟨⟩)) -∗ run Q c (call (k0_part16 (F := F)) v2 >>= k)) := by
  rw [k0_part16_eq_skeleton]
  unfold call k0_part16_skel
  simp only [semSignalWord, semWaitWord, Prog.lift, Prog.bind_op, Prog.bind_ret, Prog.pure_eq_ret, Prog.bind_assoc, wp_deviceId]
  iintro #Hk HO X0 X1 V0 V1 V2 V3 Hw
  iapply (wait m ρ c 1 2 1 21 (by decide) (by decide) (by decide) sem10 (P := hold' bX0 c 48 96 (XIN m ρ c 0)) (Entails.of_eq rfl)) $$ Hk HO V0
  iintro HO Z0 XN
  ihave X0 := (join c 0 48 96 (by decide) (by decide)) $$ X0 XN
  iapply (wait m ρ c 3 2 1 21 (by decide) (by decide) (by decide) sem12 (P := hold' bX1 c 48 96 (XIN m ρ c 1)) (Entails.of_eq rfl)) $$ Hk HO V1
  iintro HO Z1 XN
  ihave X1 := (join c 0 48 96 (by decide) (by decide)) $$ X1 XN
  iapply (wait m ρ c 1 2 2 21 (by decide) (by decide) (by decide) sem10 (P := hold' bX0 c 96 144 (XIN m ρ c 0)) (Entails.of_eq rfl)) $$ Hk HO V2
  iintro HO Z2 XN
  ihave X0 := (join c 0 96 144 (by decide) (by decide)) $$ X0 XN
  iapply (wait m ρ c 3 2 2 21 (by decide) (by decide) (by decide) sem12 (P := hold' bX1 c 96 144 (XIN m ρ c 1)) (Entails.of_eq rfl)) $$ Hk HO V3
  iintro HO Z3 XN
  ihave X1 := (join c 0 96 144 (by decide) (by decide)) $$ X1 XN
  iapply Hw $$ HO X0 X1 Z0 Z1 Z2 Z3

/-- The fourth dispatched blocks arrive, and the first expert's results for the first half are stored. -/
theorem part17 (v2 : BitVec 32) {k : (Σ' (_ : Vec F S192x512 .bf16), FVec F S512x1024 .bf16) → Prog (TpuEff nD τ sig (Elt F) Λ₀ .tc) α} :
    known m ρ ⊢ iprop(own c 21 -∗ hold' bX0 c 0 144 (XIN m ρ c 0) -∗ hold' bX1 c 0 144 (XIN m ρ c 1) -∗ Wt c 1 2 3 -∗ Wt c 3 2 3 -∗ full bW1 c (W1B m ρ c) -∗ full bW2 c (W2B m ρ c) -∗ some' bY0 c 0 192 -∗ (own c 21 -∗ hold' bX0 c 0 192 (XIN m ρ c 0) -∗ hold' bX1 c 0 192 (XIN m ρ c 1) -∗ Z c 1 3 -∗ Z c 3 3 -∗ full bW1 c (W1B m ρ c) -∗ full bW2 c (W2B m ρ c) -∗ hold' bY0 c 0 192 (YE m ρ c 0) -∗ run Q c (k ⟨block 192 0 (XIN m ρ c 1), k0_pay36 (w1e m ρ c 1)⟩)) -∗ run Q c (call (k0_part17 (F := F)) v2 >>= k)) := by
  rw [k0_part17_eq_skeleton]
  unfold call k0_part17_skel
  simp only [semSignalWord, semWaitWord, Prog.lift, Prog.bind_op, Prog.bind_ret, Prog.pure_eq_ret, Prog.bind_assoc, wp_deviceId]
  iintro #Hk HO X0 X1 V0 V1 HA HB Y0 Hw
  iapply (wait m ρ c 1 2 3 21 (by decide) (by decide) (by decide) sem10 (P := hold' bX0 c 144 192 (XIN m ρ c 0)) (Entails.of_eq rfl)) $$ Hk HO V0
  iintro HO Z0 XN
  ihave X0 := (join c 0 144 192 (by decide) (by decide)) $$ X0 XN
  iapply (wait m ρ c 3 2 3 21 (by decide) (by decide) (by decide) sem12 (P := hold' bX1 c 144 192 (XIN m ρ c 1)) (Entails.of_eq rfl)) $$ Hk HO V1
  iintro HO Z1 XN
  ihave X1 := (join c 0 144 192 (by decide) (by decide)) $$ X1 XN
  iapply (ld c 0 192 0 192 (by decide) (by decide)) $$ X0
  iintro X0
  iapply (ld_full c (b := bW1) (g := w1e m ρ c 0) rfl) $$ HA
  iintro HA
  iapply (ld_full c (b := bW2) (g := w2e m ρ c 0) rfl) $$ HB
  iintro HB
  iapply (ld_any c 0 192 0 192 (by decide) (by decide)) $$ Y0
  iintro %_ Y0
  iapply (st c 0 192 (G := YE m ρ c 0) (fun x => YE_store m ρ c 0 0 x)) $$ Y0
  iintro Y0
  iapply (ld c 0 192 0 192 (by decide) (by decide)) $$ X1
  iintro X1
  iapply (ld_full c (b := bW1) (g := w1e m ρ c 1) rfl) $$ HA
  iintro HA
  iapply Hw $$ HO X0 X1 Z0 Z1 HA HB Y0

/-- The second expert's results for the first half are stored; the first blocks are returned. -/
theorem part18 (v2 : BitVec 32) {k : BitVec 32 → Prog (TpuEff nD τ sig (Elt F) Λ₀ .tc) α} :
    known m ρ ⊢ iprop(own c 21 -∗ full bW2 c (W2B m ρ c) -∗ some' bY1 c 0 192 -∗ hold' bY0 c 0 192 (YE m ρ c 0) -∗ Out c 2 0 -∗ LY0 c 0 -∗ Out c 3 0 -∗ LY1 c 0 -∗ (own c 23 -∗ full bW2 c (W2B m ρ c) -∗ hold' bY0 c 48 192 (YE m ρ c 0) -∗ hold' bY1 c 48 192 (YE m ρ c 1) -∗ Wt c 4 0 0 -∗ Wt c 6 0 0 -∗ run Q c (k (Scalar.addi v2 2#32))) -∗ run Q c (call (k0_part18 (F := F)) c v2 (block 192 0 (XIN m ρ c 1)) (k0_pay36 (w1e m ρ c 1)) >>= k)) := by
  rw [k0_part18_eq_skeleton]
  unfold call k0_part18_skel
  simp only [semSignalWord, semWaitWord, Prog.lift, Prog.bind_op, Prog.bind_ret, Prog.pure_eq_ret, Prog.bind_assoc, wp_deviceId]
  iintro #Hk HO HB Y1 Y0 Q0 L0 Q1 L1 Hw
  iapply (ld_full c (b := bW2) (g := w2e m ρ c 1) rfl) $$ HB
  iintro HB
  iapply (ld_any c 0 192 0 192 (by decide) (by decide)) $$ Y1
  iintro %_ Y1
  iapply (st c 0 192 (G := YE m ρ c 1) (fun x => YE_store m ρ c 1 0 x)) $$ Y1
  iintro Y1
  ihave Hx := (hold_split (lo := 0) (mid := 48) (hi := 192) (by decide) (by decide)) $$ Y0
  icases Hx with ⟨Yx, Y0⟩
  iapply (send_r0 m ρ c 0 21 0 672 6 (by decide) rfl rfl rfl rfl (pl_of c (k0_dev22_eq c))) $$ Hk HO Q0 Yx L0
  iintro HO V0
  ihave Hx := (hold_split (lo := 0) (mid := 48) (hi := 192) (by decide) (by decide)) $$ Y1
  icases Hx with ⟨Yx, Y1⟩
  iapply (send_r1 m ρ c 0 22 0 720 6 (by decide) rfl rfl rfl rfl (pl_of c (k0_dev23_eq c))) $$ Hk HO Q1 Yx L1
  iintro HO V1
  iapply Hw $$ HO HB Y0 Y1 V0 V1

/-- The second blocks and the third block of the first expert are returned. -/
theorem part19 (v2 w : BitVec 32) {k : (Σ' (_ : BitVec 32), BitVec 32) → Prog (TpuEff nD τ sig (Elt F) Λ₀ .tc) α} :
    known m ρ ⊢ iprop(own c 23 -∗ hold' bY0 c 48 192 (YE m ρ c 0) -∗ hold' bY1 c 48 192 (YE m ρ c 1) -∗ Out c 2 1 -∗ LY0 c 1 -∗ Out c 3 1 -∗ LY1 c 1 -∗ Out c 2 2 -∗ LY0 c 2 -∗ (own c 26 -∗ hold' bY0 c 144 192 (YE m ρ c 0) -∗ hold' bY1 c 96 192 (YE m ρ c 1) -∗ Wt c 4 0 1 -∗ Wt c 6 0 1 -∗ Wt c 4 0 2 -∗ run Q c (k ⟨Scalar.remsi (Scalar.addi v2 3#32) 8#32, 1#32⟩)) -∗ run Q c (call (k0_part19 (F := F)) c v2 w >>= k)) := by
  rw [k0_part19_eq_skeleton]
  unfold call k0_part19_skel
  simp only [semSignalWord, semWaitWord, Prog.lift, Prog.bind_op, Prog.bind_ret, Prog.pure_eq_ret, Prog.bind_assoc, wp_deviceId]
  iintro #Hk HO Y0 Y1 Q0 L0 Q1 L1 Q2 L2 Hw
  ihave Hx := (hold_split (lo := 48) (mid := 96) (hi := 192) (by decide) (by decide)) $$ Y0
  icases Hx with ⟨Yx, Y0⟩
  iapply (send_r0 m ρ c 1 23 48 576 5 (by decide) rfl rfl rfl rfl (pl_of c (k0_dev24_eq c))) $$ Hk HO Q0 Yx L0
  iintro HO V0
  ihave Hx := (hold_split (lo := 48) (mid := 96) (hi := 192) (by decide) (by decide)) $$ Y1
  icases Hx with ⟨Yx, Y1⟩
  iapply (send_r1 m ρ c 1 24 48 624 5 (by decide) rfl rfl rfl rfl (pl_of c (k0_dev25_eq c))) $$ Hk HO Q1 Yx L1
  iintro HO V1
  ihave Hx := (hold_split (lo := 96) (mid := 144) (hi := 192) (by decide) (by decide)) $$ Y0
  icases Hx with ⟨Yx, Y0⟩
  iapply (send_r0 m ρ c 2 25 96 480 4 (by decide) rfl rfl rfl rfl (pl_of c (k0_dev26_eq c))) $$ Hk HO Q2 Yx L2
  iintro HO V2
  iapply Hw $$ HO Y0 Y1 V0 V1 V2

/-- The rest of the third blocks and the fourth blocks are returned. -/
theorem part20 (v2 w u : BitVec 32) {k : PUnit → Prog (TpuEff nD τ sig (Elt F) Λ₀ .tc) α} :
    known m ρ ⊢ iprop(own c 26 -∗ hold' bY0 c 144 192 (YE m ρ c 0) -∗ hold' bY1 c 96 192 (YE m ρ c 1) -∗ Out c 3 2 -∗ LY1 c 2 -∗ Out c 2 3 -∗ LY0 c 3 -∗ Out c 3 3 -∗ LY1 c 3 -∗ (own c 29 -∗ Wt c 6 0 2 -∗ Wt c 4 0 3 -∗ Wt c 6 0 3 -∗ run Q c (k ⟨⟩)) -∗ run Q c (call (k0_part20 (F := F)) c v2 w u >>= k)) := by
  rw [k0_part20_eq_skeleton]
  unfold call k0_part20_skel
  simp only [semSignalWord, semWaitWord, Prog.lift, Prog.bind_op, Prog.bind_ret, Prog.pure_eq_ret, Prog.bind_assoc, wp_deviceId]
  iintro #Hk HO Y0 Y1 Q0 L0 Q1 L1 Q2 L2 Hw
  ihave Hx := (hold_split (lo := 96) (mid := 144) (hi := 192) (by decide) (by decide)) $$ Y1
  icases Hx with ⟨Yx, Y1⟩
  iapply (send_r1 m ρ c 2 26 96 528 4 (by decide) rfl rfl rfl rfl (pl_of c (k0_dev27_eq c))) $$ Hk HO Q0 Yx L0
  iintro HO V0
  iapply (send_r0 m ρ c 3 27 144 384 3 (by decide) rfl rfl rfl rfl (pl_of c (k0_dev28_eq c))) $$ Hk HO Q1 Y0 L1
  iintro HO V1
  iapply (send_r1 m ρ c 3 28 144 432 3 (by decide) rfl rfl rfl rfl (pl_of c (k0_dev29_eq c))) $$ Hk HO Q2 Y1 L2
  iintro HO V2
  iapply Hw $$ HO V0 V1 V2

/-- The next dispatched blocks arrive. -/
theorem part21 (v2 : BitVec 32) {k : PUnit → Prog (TpuEff nD τ sig (Elt F) Λ₀ .tc) α} :
    known m ρ ⊢ iprop(own c 29 -∗ Wt c 1 2 4 -∗ Wt c 3 2 4 -∗ Wt c 1 2 5 -∗ Wt c 3 2 5 -∗ (own c 29 -∗ hold' bX0 c 192 288 (XIN m ρ c 0) -∗ hold' bX1 c 192 288 (XIN m ρ c 1) -∗ Z c 1 4 -∗ Z c 3 4 -∗ Z c 1 5 -∗ Z c 3 5 -∗ run Q c (k ⟨⟩)) -∗ run Q c (call (k0_part21 (F := F)) v2 >>= k)) := by
  rw [k0_part21_eq_skeleton]
  unfold call k0_part21_skel
  simp only [semSignalWord, semWaitWord, Prog.lift, Prog.bind_op, Prog.bind_ret, Prog.pure_eq_ret, Prog.bind_assoc, wp_deviceId]
  iintro #Hk HO V0 V1 V2 V3 Hw
  iapply (wait m ρ c 1 2 4 29 (by decide) (by decide) (by decide) sem10 (P := hold' bX0 c 192 240 (XIN m ρ c 0)) (Entails.of_eq rfl)) $$ Hk HO V0
  iintro HO Z0 X0
  iapply (wait m ρ c 3 2 4 29 (by decide) (by decide) (by decide) sem12 (P := hold' bX1 c 192 240 (XIN m ρ c 1)) (Entails.of_eq rfl)) $$ Hk HO V1
  iintro HO Z1 X1
  iapply (wait m ρ c 1 2 5 29 (by decide) (by decide) (by decide) sem10 (P := hold' bX0 c 240 288 (XIN m ρ c 0)) (Entails.of_eq rfl)) $$ Hk HO V2
  iintro HO Z2 XN
  ihave X0 := (join c 192 240 288 (by decide) (by decide)) $$ X0 XN
  iapply (wait m ρ c 3 2 5 29 (by decide) (by decide) (by decide) sem12 (P := hold' bX1 c 240 288 (XIN m ρ c 1)) (Entails.of_eq rfl)) $$ Hk HO V3
  iintro HO Z3 XN
  ihave X1 := (join c 192 240 288 (by decide) (by decide)) $$ X1 XN
  iapply Hw $$ HO X0 X1 Z0 Z1 Z2 Z3

/-- The last dispatched blocks arrive, and the first expert's results for the second half are stored. -/
theorem part22 (v2 : BitVec 32) {k : FVec F S192x1024 .f32 → Prog (TpuEff nD τ sig (Elt F) Λ₀ .tc) α} :
    known m ρ ⊢ iprop(own c 29 -∗ hold' bX0 c 192 288 (XIN m ρ c 0) -∗ hold' bX1 c 192 288 (XIN m ρ c 1) -∗ hold' bX0 c 336 384 (XIN m ρ c 0) -∗ hold' bX1 c 336 384 (XIN m ρ c 1) -∗ Wt c 1 2 6 -∗ Wt c 3 2 6 -∗ full bW1 c (W1B m ρ c) -∗ full bW2 c (W2B m ρ c) -∗ some' bY0 c 192 384 -∗ (own c 29 -∗ hold' bX0 c 192 384 (XIN m ρ c 0) -∗ hold' bX1 c 192 384 (XIN m ρ c 1) -∗ Z c 1 6 -∗ Z c 3 6 -∗ full bW1 c (W1B m ρ c) -∗ full bW2 c (W2B m ρ c) -∗ hold' bY0 c 192 384 (YE m ρ c 0) -∗ run Q c (k (k0_pay39 (block 192 192 (XIN m ρ c 1)) (w1e m ρ c 1)))) -∗ run Q c (call (k0_part22 (F := F)) v2 >>= k)) := by
  rw [k0_part22_eq_skeleton]
  unfold call k0_part22_skel
  simp only [semSignalWord, semWaitWord, Prog.lift, Prog.bind_op, Prog.bind_ret, Prog.pure_eq_ret, Prog.bind_assoc, wp_deviceId]
  iintro #Hk HO X0 X1 S0 S1 V0 V1 HA HB Y0 Hw
  iapply (wait m ρ c 1 2 6 29 (by decide) (by decide) (by decide) sem10 (P := hold' bX0 c 288 336 (XIN m ρ c 0)) (Entails.of_eq rfl)) $$ Hk HO V0
  iintro HO Z0 XN
  ihave X0 := (join c 192 288 336 (by decide) (by decide)) $$ X0 XN
  ihave X0 := (join c 192 336 384 (by decide) (by decide)) $$ X0 S0
  iapply (wait m ρ c 3 2 6 29 (by decide) (by decide) (by decide) sem12 (P := hold' bX1 c 288 336 (XIN m ρ c 1)) (Entails.of_eq rfl)) $$ Hk HO V1
  iintro HO Z1 XN
  ihave X1 := (join c 192 288 336 (by decide) (by decide)) $$ X1 XN
  ihave X1 := (join c 192 336 384 (by decide) (by decide)) $$ X1 S1
  iapply (ld c 192 384 192 192 (by decide) (by decide)) $$ X0
  iintro X0
  iapply (ld_full c (b := bW1) (g := w1e m ρ c 0) rfl) $$ HA
  iintro HA
  iapply (ld_full c (b := bW2) (g := w2e m ρ c 0) rfl) $$ HB
  iintro HB
  iapply (ld_any c 192 384 192 192 (by decide) (by decide)) $$ Y0
  iintro %_ Y0
  iapply (st c 192 192 (G := YE m ρ c 0) (fun x => YE_store m ρ c 0 1 x)) $$ Y0
  iintro Y0
  iapply (ld c 192 384 192 192 (by decide) (by decide)) $$ X1
  iintro X1
  iapply (ld_full c (b := bW1) (g := w1e m ρ c 1) rfl) $$ HA
  iintro HA
  iapply Hw $$ HO X0 X1 Z0 Z1 HA HB Y0

/-- The second expert's results for the second half are stored; the fifth blocks are returned. -/
theorem part23 (v2 : BitVec 32) {k : BitVec 32 → Prog (TpuEff nD τ sig (Elt F) Λ₀ .tc) α} :
    known m ρ ⊢ iprop(own c 29 -∗ full bW2 c (W2B m ρ c) -∗ some' bY1 c 192 384 -∗ hold' bY0 c 192 384 (YE m ρ c 0) -∗ Out c 2 4 -∗ LY0 c 4 -∗ Out c 3 4 -∗ LY1 c 4 -∗ (own c 31 -∗ full bW2 c (W2B m ρ c) -∗ hold' bY0 c 240 384 (YE m ρ c 0) -∗ hold' bY1 c 240 384 (YE m ρ c 1) -∗ Wt c 4 0 4 -∗ Wt c 6 0 4 -∗ run Q c (k (Scalar.remsi (Scalar.addi v2 6#32) 8#32))) -∗ run Q c (call (k0_part23 (F := F)) c v2 (k0_pay39 (block 192 192 (XIN m ρ c 1)) (w1e m ρ c 1)) >>= k)) := by
  rw [k0_part23_eq_skeleton]
  unfold call k0_part23_skel
  simp only [semSignalWord, semWaitWord, Prog.lift, Prog.bind_op, Prog.bind_ret, Prog.pure_eq_ret, Prog.bind_assoc, wp_deviceId]
  iintro #Hk HO HB Y1 Y0 Q0 L0 Q1 L1 Hw
  iapply (ld_full c (b := bW2) (g := w2e m ρ c 1) rfl) $$ HB
  iintro HB
  iapply (ld_any c 192 384 192 192 (by decide) (by decide)) $$ Y1
  iintro %_ Y1
  iapply (st c 192 192 (G := YE m ρ c 1) (fun x => YE_store m ρ c 1 1 x)) $$ Y1
  iintro Y1
  ihave Hx := (hold_split (lo := 192) (mid := 240) (hi := 384) (by decide) (by decide)) $$ Y0
  icases Hx with ⟨Yx, Y0⟩
  iapply (send_r0 m ρ c 4 29 192 288 2 (by decide) rfl rfl rfl rfl (pl_of c (k0_dev30_eq c))) $$ Hk HO Q0 Yx L0
  iintro HO V0
  ihave Hx := (hold_split (lo := 192) (mid := 240) (hi := 384) (by decide) (by decide)) $$ Y1
  icases Hx with ⟨Yx, Y1⟩
  iapply (send_r1 m ρ c 4 30 192 336 2 (by decide) rfl rfl rfl rfl (pl_of c (k0_dev31_eq c))) $$ Hk HO Q1 Yx L1
  iintro HO V1
  iapply Hw $$ HO HB Y0 Y1 V0 V1

/-- The sixth blocks and the last block of the first expert are returned. -/
theorem part24 (v2 w : BitVec 32) {k : (Σ' (_ : BitVec 32), BitVec 32) → Prog (TpuEff nD τ sig (Elt F) Λ₀ .tc) α} :
    known m ρ ⊢ iprop(own c 31 -∗ hold' bY0 c 240 384 (YE m ρ c 0) -∗ hold' bY1 c 240 384 (YE m ρ c 1) -∗ Out c 2 5 -∗ LY0 c 5 -∗ Out c 3 5 -∗ LY1 c 5 -∗ Out c 2 6 -∗ LY0 c 6 -∗ (own c 34 -∗ hold' bY0 c 336 384 (YE m ρ c 0) -∗ hold' bY1 c 288 384 (YE m ρ c 1) -∗ Wt c 4 0 5 -∗ Wt c 6 0 5 -∗ Wt c 4 0 6 -∗ run Q c (k ⟨Scalar.muli (Scalar.remsi (Scalar.addi v2 7#32) 8#32) 1#32, 0#32⟩)) -∗ run Q c (call (k0_part24 (F := F)) c v2 w >>= k)) := by
  rw [k0_part24_eq_skeleton]
  unfold call k0_part24_skel
  simp only [semSignalWord, semWaitWord, Prog.lift, Prog.bind_op, Prog.bind_ret, Prog.pure_eq_ret, Prog.bind_assoc, wp_deviceId]
  iintro #Hk HO Y0 Y1 Q0 L0 Q1 L1 Q2 L2 Hw
  ihave Hx := (hold_split (lo := 240) (mid := 288) (hi := 384) (by decide) (by decide)) $$ Y0
  icases Hx with ⟨Yx, Y0⟩
  iapply (send_r0 m ρ c 5 31 240 192 1 (by decide) rfl rfl rfl rfl (pl_of c (k0_dev32_eq c))) $$ Hk HO Q0 Yx L0
  iintro HO V0
  ihave Hx := (hold_split (lo := 240) (mid := 288) (hi := 384) (by decide) (by decide)) $$ Y1
  icases Hx with ⟨Yx, Y1⟩
  iapply (send_r1 m ρ c 5 32 240 240 1 (by decide) rfl rfl rfl rfl (pl_of c (k0_dev33_eq c))) $$ Hk HO Q1 Yx L1
  iintro HO V1
  ihave Hx := (hold_split (lo := 288) (mid := 336) (hi := 384) (by decide) (by decide)) $$ Y0
  icases Hx with ⟨Yx, Y0⟩
  iapply (send_r0 m ρ c 6 33 288 96 0 (by decide) rfl rfl rfl rfl (pl_of c (k0_dev34_eq c))) $$ Hk HO Q2 Yx L2
  iintro HO V2
  iapply Hw $$ HO Y0 Y1 V0 V1 V2

end Parts

end Cert.KernelIdeal.Run

end
-- ==== Proof.KernelIdealBody3.lean ====
/-
# The kernel on its own buffers: results

The parts of the kernel from the last return transfer on.
-/
module

public import proofs.«01_k».proof.Proof.KernelIdealBody2

@[expose] public section

noncomputable section

namespace Cert.KernelIdeal.Run

open Cert.KernelIdeal Cert.KernelIdeal.Gen Cert.Rows

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ) (ρ : Dev nD → PrngReg)

set_option maxHeartbeats 1000000

section Parts
variable {α : Type} {Q : α → sProp (MT nD τ sig ℕ (Elt F) ℕ UU ℕ)} (c : Dev nD)

/-- The last block is returned; the device keeps its own results; the first returned blocks arrive. -/
theorem part25 (v2 w u : BitVec 32) {k : PUnit → Prog (TpuEff nD τ sig (Elt F) Λ₀ .tc) α} :
    known m ρ ⊢ iprop(own c 34 -∗ hold' bY0 c 336 384 (YE m ρ c 0) -∗ hold' bY1 c 288 384 (YE m ρ c 1) -∗ Out c 3 6 -∗ LY1 c 6 -∗ some' bYr c 0 48 -∗ some' bYr c 48 96 -∗ Wt c 5 3 3 -∗ Wt c 7 3 3 -∗ (own c 35 -∗ Wt c 6 0 6 -∗ hold' bY0 c 336 384 (YE m ρ c 0) -∗ hold' bY1 c 336 384 (YE m ρ c 1) -∗ hold' bYr c 0 96 (YRET m ρ c) -∗ Z c 5 3 -∗ Z c 7 3 -∗ hold' bYr c 384 480 (YRET m ρ c) -∗ run Q c (k ⟨⟩)) -∗ run Q c (call (k0_part25 (F := F)) c v2 w u >>= k)) := by
  rw [k0_part25_eq_skeleton]
  unfold call k0_part25_skel
  simp only [semSignalWord, semWaitWord, Prog.lift, Prog.bind_op, Prog.bind_ret, Prog.pure_eq_ret, Prog.bind_assoc, wp_deviceId]
  iintro #Hk HO Y0 Y1 Q0 L0 R0 R1 V0 V1 Hw
  ihave Hx := (hold_split (lo := 288) (mid := 336) (hi := 384) (by decide) (by decide)) $$ Y1
  icases Hx with ⟨Yx, Y1⟩
  iapply (send_r1 m ρ c 6 34 288 144 0 (by decide) rfl rfl rfl rfl (pl_of c (k0_dev35_eq c))) $$ Hk HO Q0 Yx L0
  iintro HO V2
  iapply (ld c 336 384 336 48 (by decide) (by decide)) $$ Y0
  iintro Y0
  iapply (ld_any c 0 48 0 48 (by decide) (by decide)) $$ R0
  iintro %_ R0
  iapply (st c 0 48 (G := YRET m ρ c) (fun x => YRET_self0 m ρ c x)) $$ R0
  iintro R0
  iapply (ld c 336 384 336 48 (by decide) (by decide)) $$ Y1
  iintro Y1
  iapply (ld_any c 48 96 48 48 (by decide) (by decide)) $$ R1
  iintro %_ R1
  iapply (st c 48 48 (G := YRET m ρ c) (fun x => YRET_self1 m ρ c x)) $$ R1
  iintro R1
  ihave R0 := (join c 0 48 96 (by decide) (by decide)) $$ R0 R1
  iapply (wait m ρ c 5 3 3 35 (by decide) (by decide) (by decide) sem14 (P := hold' bYr c 384 432 (YRET m ρ c)) (Entails.of_eq rfl)) $$ Hk HO V0
  iintro HO Z0 R
  iapply (wait m ρ c 7 3 3 35 (by decide) (by decide) (by decide) sem16 (P := hold' bYr c 432 480 (YRET m ρ c)) (Entails.of_eq rfl)) $$ Hk HO V1
  iintro HO Z1 RN
  ihave R := (join c 384 432 480 (by decide) (by decide)) $$ R RN
  iapply Hw $$ HO V2 Y0 Y1 R0 Z0 Z1 R

/-- The next returned blocks arrive. -/
theorem part26 (v2 : BitVec 32) {k : PUnit → Prog (TpuEff nD τ sig (Elt F) Λ₀ .tc) α} :
    known m ρ ⊢ iprop(own c 35 -∗ hold' bYr c 384 480 (YRET m ρ c) -∗ Wt c 5 3 4 -∗ Wt c 7 3 4 -∗ Wt c 5 3 5 -∗ Wt c 7 3 5 -∗ (own c 35 -∗ hold' bYr c 384 672 (YRET m ρ c) -∗ Z c 5 4 -∗ Z c 7 4 -∗ Z c 5 5 -∗ Z c 7 5 -∗ run Q c (k ⟨⟩)) -∗ run Q c (call (k0_part26 (F := F)) v2 >>= k)) := by
  rw [k0_part26_eq_skeleton]
  unfold call k0_part26_skel
  simp only [semSignalWord, semWaitWord, Prog.lift, Prog.bind_op, Prog.bind_ret, Prog.pure_eq_ret, Prog.bind_assoc, wp_deviceId]
  iintro #Hk HO R V0 V1 V2 V3 Hw
  iapply (wait m ρ c 5 3 4 35 (by decide) (by decide) (by decide) sem14 (P := hold' bYr c 480 528 (YRET m ρ c)) (Entails.of_eq rfl)) $$ Hk HO V0
  iintro HO Z0 RN
  ihave R := (join c 384 480 528 (by decide) (by decide)) $$ R RN
  iapply (wait m ρ c 7 3 4 35 (by decide) (by decide) (by decide) sem16 (P := hold' bYr c 528 576 (YRET m ρ c)) (Entails.of_eq rfl)) $$ Hk HO V1
  iintro HO Z1 RN
  ihave R := (join c 384 528 576 (by decide) (by decide)) $$ R RN
  iapply (wait m ρ c 5 3 5 35 (by decide) (by decide) (by decide) sem14 (P := hold' bYr c 576 624 (YRET m ρ c)) (Entails.of_eq rfl)) $$ Hk HO V2
  iintro HO Z2 RN
  ihave R := (join c 384 576 624 (by decide) (by decide)) $$ R RN
  iapply (wait m ρ c 7 3 5 35 (by decide) (by decide) (by decide) sem16 (P := hold' bYr c 624 672 (YRET m ρ c)) (Entails.of_eq rfl)) $$ Hk HO V3
  iintro HO Z3 RN
  ihave R := (join c 384 624 672 (by decide) (by decide)) $$ R RN
  iapply Hw $$ HO R Z0 Z1 Z2 Z3

/-- The returned blocks of the second half are complete, and their part of the result is computed. -/
theorem part27 (v2 : BitVec 32) {k : FVec F S512x512 .f32 → Prog (TpuEff nD τ sig (Elt F) Λ₀ .tc) α} :
    known m ρ ⊢ iprop(own c 35 -∗ hold' bYr c 384 672 (YRET m ρ c) -∗ hold' bYr c 0 96 (YRET m ρ c) -∗ hold' bPall c 0 768 (PALL m ρ c) -∗ Wt c 5 3 6 -∗ Wt c 7 3 6 -∗ (own c 35 -∗ hold' bYr c 384 768 (YRET m ρ c) -∗ hold' bYr c 0 96 (YRET m ρ c) -∗ hold' bPall c 0 768 (PALL m ρ c) -∗ Z c 5 6 -∗ Z c 7 6 -∗ run Q c (k (k0_pay43 (block 384 384 (PALL m ρ c)) (block 384 384 (YRET m ρ c)) (block 96 0 (PALL m ρ c)) (block 96 0 (YRET m ρ c))))) -∗ run Q c (call (k0_part27 (F := F)) v2 >>= k)) := by
  rw [k0_part27_eq_skeleton]
  unfold call k0_part27_skel
  simp only [semSignalWord, semWaitWord, Prog.lift, Prog.bind_op, Prog.bind_ret, Prog.pure_eq_ret, Prog.bind_assoc, wp_deviceId]
  iintro #Hk HO R R0 HP V0 V1 Hw
  iapply (wait m ρ c 5 3 6 35 (by decide) (by decide) (by decide) sem14 (P := hold' bYr c 672 720 (YRET m ρ c)) (Entails.of_eq rfl)) $$ Hk HO V0
  iintro HO Z0 RN
  ihave R := (join c 384 672 720 (by decide) (by decide)) $$ R RN
  iapply (wait m ρ c 7 3 6 35 (by decide) (by decide) (by decide) sem16 (P := hold' bYr c 720 768 (YRET m ρ c)) (Entails.of_eq rfl)) $$ Hk HO V1
  iintro HO Z1 RN
  ihave R := (join c 384 720 768 (by decide) (by decide)) $$ R RN
  iapply (ld c 0 768 384 384 (by decide) (by decide)) $$ HP
  iintro HP
  iapply (ld c 384 768 384 384 (by decide) (by decide)) $$ R
  iintro R
  iapply (ld c 0 768 0 96 (by decide) (by decide)) $$ HP
  iintro HP
  iapply (ld c 0 96 0 96 (by decide) (by decide)) $$ R0
  iintro R0
  iapply Hw $$ HO R R0 HP Z0 Z1

/-- The last returned blocks but two arrive. -/
theorem part28 (v2 : BitVec 32) {k : PUnit → Prog (TpuEff nD τ sig (Elt F) Λ₀ .tc) α} :
    known m ρ ⊢ iprop(own c 35 -∗ Wt c 5 3 0 -∗ Wt c 7 3 0 -∗ Wt c 5 3 1 -∗ Wt c 7 3 1 -∗ (own c 35 -∗ hold' bYr c 96 288 (YRET m ρ c) -∗ Z c 5 0 -∗ Z c 7 0 -∗ Z c 5 1 -∗ Z c 7 1 -∗ run Q c (k ⟨⟩)) -∗ run Q c (call (k0_part28 (F := F)) v2 >>= k)) := by
  rw [k0_part28_eq_skeleton]
  unfold call k0_part28_skel
  simp only [semSignalWord, semWaitWord, Prog.lift, Prog.bind_op, Prog.bind_ret, Prog.pure_eq_ret, Prog.bind_assoc, wp_deviceId]
  iintro #Hk HO V0 V1 V2 V3 Hw
  iapply (wait m ρ c 5 3 0 35 (by decide) (by decide) (by decide) sem14 (P := hold' bYr c 96 144 (YRET m ρ c)) (Entails.of_eq rfl)) $$ Hk HO V0
  iintro HO Z0 R
  iapply (wait m ρ c 7 3 0 35 (by decide) (by decide) (by decide) sem16 (P := hold' bYr c 144 192 (YRET m ρ c)) (Entails.of_eq rfl)) $$ Hk HO V1
  iintro HO Z1 RN
  ihave R := (join c 96 144 192 (by decide) (by decide)) $$ R RN
  iapply (wait m ρ c 5 3 1 35 (by decide) (by decide) (by decide) sem14 (P := hold' bYr c 192 240 (YRET m ρ c)) (Entails.of_eq rfl)) $$ Hk HO V2
  iintro HO Z2 RN
  ihave R := (join c 96 192 240 (by decide) (by decide)) $$ R RN
  iapply (wait m ρ c 7 3 1 35 (by decide) (by decide) (by decide) sem16 (P := hold' bYr c 240 288 (YRET m ρ c)) (Entails.of_eq rfl)) $$ Hk HO V3
  iintro HO Z3 RN
  ihave R := (join c 96 240 288 (by decide) (by decide)) $$ R RN
  iapply Hw $$ HO R Z0 Z1 Z2 Z3

/-- The last returned blocks arrive, the result is stored, and the first dispatch transfers are done. -/
theorem part29 (v2 : BitVec 32) {k : PUnit → Prog (TpuEff nD τ sig (Elt F) Λ₀ .tc) α} :
    known m ρ ⊢ iprop(own c 35 -∗ hold' bYr c 96 288 (YRET m ρ c) -∗ hold' bPall c 0 768 (PALL m ρ c) -∗ Wt c 5 3 2 -∗ Wt c 7 3 2 -∗ (∃ f, full bS4 c f) -∗ some' bDs c 0 96 -∗ Wt c 0 0 0 -∗ Wt c 2 0 0 -∗ (own c 35 -∗ hold' bYr c 96 384 (YRET m ρ c) -∗ hold' bPall c 0 768 (PALL m ρ c) -∗ Z c 5 2 -∗ Z c 7 2 -∗ full bS4 c (OUT m ρ c) -∗ some' bDs c 0 192 -∗ Z c 0 0 -∗ Z c 2 0 -∗ run Q c (k ⟨⟩)) -∗ run Q c (call (k0_part29 (F := F)) v2 (k0_pay43 (block 384 384 (PALL m ρ c)) (block 384 384 (YRET m ρ c)) (block 96 0 (PALL m ρ c)) (block 96 0 (YRET m ρ c))) >>= k)) := by
  rw [k0_part29_eq_skeleton]
  unfold call k0_part29_skel
  simp only [semSignalWord, semWaitWord, Prog.lift, Prog.bind_op, Prog.bind_ret, Prog.pure_eq_ret, Prog.bind_assoc, wp_deviceId]
  iintro #Hk HO R HP V0 V1 H4 HD V2 V3 Hw
  iapply (wait m ρ c 5 3 2 35 (by decide) (by decide) (by decide) sem14 (P := hold' bYr c 288 336 (YRET m ρ c)) (Entails.of_eq rfl)) $$ Hk HO V0
  iintro HO Z0 RN
  ihave R := (join c 96 288 336 (by decide) (by decide)) $$ R RN
  iapply (wait m ρ c 7 3 2 35 (by decide) (by decide) (by decide) sem16 (P := hold' bYr c 336 384 (YRET m ρ c)) (Entails.of_eq rfl)) $$ Hk HO V1
  iintro HO Z1 RN
  ihave R := (join c 96 336 384 (by decide) (by decide)) $$ R RN
  iapply (ld c 0 768 96 288 (by decide) (by decide)) $$ HP
  iintro HP
  iapply (ld c 96 384 96 288 (by decide) (by decide)) $$ R
  iintro R
  iapply (ld_full_any c (b := bS4)) $$ H4
  iintro %_ H4
  iapply (st_full c (b := bS4) (g := OUT m ρ c) (fun f => Memref.write_access_unit_zero_univ (Elt F) cc0_stg4_0 zero2 _ f _)) $$ H4
  iintro H4
  iapply (wait m ρ c 0 0 0 35 (by decide) (by decide) (by decide) sem9 (P := some' bDs c 96 144) hold_to_some) $$ Hk HO V2
  iintro HO Z2 DN
  ihave HD := (join_any c 0 96 144 (by decide) (by decide)) $$ HD DN
  iapply (wait m ρ c 2 0 0 35 (by decide) (by decide) (by decide) sem11 (P := some' bDs c 144 192) hold_to_some) $$ Hk HO V3
  iintro HO Z3 DN
  ihave HD := (join_any c 0 144 192 (by decide) (by decide)) $$ HD DN
  iapply Hw $$ HO R HP Z0 Z1 H4 HD Z2 Z3

/-- Five more dispatch transfers are done. -/
theorem part30 {k : PUnit → Prog (TpuEff nD τ sig (Elt F) Λ₀ .tc) α} :
    known m ρ ⊢ iprop(own c 35 -∗ some' bDs c 0 192 -∗ Wt c 0 0 1 -∗ Wt c 2 0 1 -∗ Wt c 0 0 2 -∗ Wt c 2 0 2 -∗ Wt c 0 0 3 -∗ (own c 35 -∗ some' bDs c 0 432 -∗ Z c 0 1 -∗ Z c 2 1 -∗ Z c 0 2 -∗ Z c 2 2 -∗ Z c 0 3 -∗ run Q c (k ⟨⟩)) -∗ run Q c (call (k0_part30 (F := F)) >>= k)) := by
  rw [k0_part30_eq_skeleton]
  unfold call k0_part30_skel
  simp only [semSignalWord, semWaitWord, Prog.lift, Prog.bind_op, Prog.bind_ret, Prog.pure_eq_ret, Prog.bind_assoc, wp_deviceId]
  iintro #Hk HO HD V0 V1 V2 V3 V4 Hw
  iapply (wait m ρ c 0 0 1 35 (by decide) (by decide) (by decide) sem9 (P := some' bDs c 192 240) hold_to_some) $$ Hk HO V0
  iintro HO Z0 N
  ihave HD := (join_any c 0 192 240 (by decide) (by decide)) $$ HD N
  iapply (wait m ρ c 2 0 1 35 (by decide) (by decide) (by decide) sem11 (P := some' bDs c 240 288) hold_to_some) $$ Hk HO V1
  iintro HO Z1 N
  ihave HD := (join_any c 0 240 288 (by decide) (by decide)) $$ HD N
  iapply (wait m ρ c 0 0 2 35 (by decide) (by decide) (by decide) sem9 (P := some' bDs c 288 336) hold_to_some) $$ Hk HO V2
  iintro HO Z2 N
  ihave HD := (join_any c 0 288 336 (by decide) (by decide)) $$ HD N
  iapply (wait m ρ c 2 0 2 35 (by decide) (by decide) (by decide) sem11 (P := some' bDs c 336 384) hold_to_some) $$ Hk HO V3
  iintro HO Z3 N
  ihave HD := (join_any c 0 336 384 (by decide) (by decide)) $$ HD N
  iapply (wait m ρ c 0 0 3 35 (by decide) (by decide) (by decide) sem9 (P := some' bDs c 384 432) hold_to_some) $$ Hk HO V4
  iintro HO Z4 N
  ihave HD := (join_any c 0 384 432 (by decide) (by decide)) $$ HD N
  iapply Hw $$ HO HD Z0 Z1 Z2 Z3 Z4

/-- Five more dispatch transfers are done. -/
theorem part31 {k : PUnit → Prog (TpuEff nD τ sig (Elt F) Λ₀ .tc) α} :
    known m ρ ⊢ iprop(own c 35 -∗ some' bDs c 0 432 -∗ Wt c 2 0 3 -∗ Wt c 0 0 4 -∗ Wt c 2 0 4 -∗ Wt c 0 0 5 -∗ Wt c 2 0 5 -∗ (own c 35 -∗ some' bDs c 0 672 -∗ Z c 2 3 -∗ Z c 0 4 -∗ Z c 2 4 -∗ Z c 0 5 -∗ Z c 2 5 -∗ run Q c (k ⟨⟩)) -∗ run Q c (call (k0_part31 (F := F)) >>= k)) := by
  rw [k0_part31_eq_skeleton]
  unfold call k0_part31_skel
  simp only [semSignalWord, semWaitWord, Prog.lift, Prog.bind_op, Prog.bind_ret, Prog.pure_eq_ret, Prog.bind_assoc, wp_deviceId]
  iintro #Hk HO HD V0 V1 V2 V3 V4 Hw
  iapply (wait m ρ c 2 0 3 35 (by decide) (by decide) (by decide) sem11 (P := some' bDs c 432 480) hold_to_some) $$ Hk HO V0
  iintro HO Z0 N
  ihave HD := (join_any c 0 432 480 (by decide) (by decide)) $$ HD N
  iapply (wait m ρ c 0 0 4 35 (by decide) (by decide) (by decide) sem9 (P := some' bDs c 480 528) hold_to_some) $$ Hk HO V1
  iintro HO Z1 N
  ihave HD := (join_any c 0 480 528 (by decide) (by decide)) $$ HD N
  iapply (wait m ρ c 2 0 4 35 (by decide) (by decide) (by decide) sem11 (P := some' bDs c 528 576) hold_to_some) $$ Hk HO V2
  iintro HO Z2 N
  ihave HD := (join_any c 0 528 576 (by decide) (by decide)) $$ HD N
  iapply (wait m ρ c 0 0 5 35 (by decide) (by decide) (by decide) sem9 (P := some' bDs c 576 624) hold_to_some) $$ Hk HO V3
  iintro HO Z3 N
  ihave HD := (join_any c 0 576 624 (by decide) (by decide)) $$ HD N
  iapply (wait m ρ c 2 0 5 35 (by decide) (by decide) (by decide) sem11 (P := some' bDs c 624 672) hold_to_some) $$ Hk HO V4
  iintro HO Z4 N
  ihave HD := (join_any c 0 624 672 (by decide) (by decide)) $$ HD N
  iapply Hw $$ HO HD Z0 Z1 Z2 Z3 Z4

/-- The last dispatch transfers and the first return transfers are done. -/
theorem part32 {k : PUnit → Prog (TpuEff nD τ sig (Elt F) Λ₀ .tc) α} :
    known m ρ ⊢ iprop(own c 35 -∗ some' bDs c 0 672 -∗ Wt c 0 0 6 -∗ Wt c 2 0 6 -∗ Wt c 4 0 0 -∗ Wt c 6 0 0 -∗ Wt c 4 0 1 -∗ (own c 35 -∗ some' bDs c 0 768 -∗ some' bY0 c 0 96 -∗ some' bY1 c 0 48 -∗ Z c 0 6 -∗ Z c 2 6 -∗ Z c 4 0 -∗ Z c 6 0 -∗ Z c 4 1 -∗ run Q c (k ⟨⟩)) -∗ run Q c (call (k0_part32 (F := F)) >>= k)) := by
  rw [k0_part32_eq_skeleton]
  unfold call k0_part32_skel
  simp only [semSignalWord, semWaitWord, Prog.lift, Prog.bind_op, Prog.bind_ret, Prog.pure_eq_ret, Prog.bind_assoc, wp_deviceId]
  iintro #Hk HO HD V0 V1 V2 V3 V4 Hw
  iapply (wait m ρ c 0 0 6 35 (by decide) (by decide) (by decide) sem9 (P := some' bDs c 672 720) hold_to_some) $$ Hk HO V0
  iintro HO Z0 N
  ihave HD := (join_any c 0 672 720 (by decide) (by decide)) $$ HD N
  iapply (wait m ρ c 2 0 6 35 (by decide) (by decide) (by decide) sem11 (P := some' bDs c 720 768) hold_to_some) $$ Hk HO V1
  iintro HO Z1 N
  ihave HD := (join_any c 0 720 768 (by decide) (by decide)) $$ HD N
  iapply (wait m ρ c 4 0 0 35 (by decide) (by decide) (by decide) sem13 (P := some' bY0 c 0 48) hold_to_some) $$ Hk HO V2
  iintro HO Z2 Y0
  iapply (wait m ρ c 6 0 0 35 (by decide) (by decide) (by decide) sem15 (P := some' bY1 c 0 48) hold_to_some) $$ Hk HO V3
  iintro HO Z3 Y1
  iapply (wait m ρ c 4 0 1 35 (by decide) (by decide) (by decide) sem13 (P := some' bY0 c 48 96) hold_to_some) $$ Hk HO V4
  iintro HO Z4 N
  ihave Y0 := (join_any c 0 48 96 (by decide) (by decide)) $$ Y0 N
  iapply Hw $$ HO HD Y0 Y1 Z0 Z1 Z2 Z3 Z4

/-- Five more return transfers are done. -/
theorem part33 {k : PUnit → Prog (TpuEff nD τ sig (Elt F) Λ₀ .tc) α} :
    known m ρ ⊢ iprop(own c 35 -∗ some' bY0 c 0 96 -∗ some' bY1 c 0 48 -∗ Wt c 6 0 1 -∗ Wt c 4 0 2 -∗ Wt c 6 0 2 -∗ Wt c 4 0 3 -∗ Wt c 6 0 3 -∗ (own c 35 -∗ some' bY0 c 0 192 -∗ some' bY1 c 0 192 -∗ Z c 6 1 -∗ Z c 4 2 -∗ Z c 6 2 -∗ Z c 4 3 -∗ Z c 6 3 -∗ run Q c (k ⟨⟩)) -∗ run Q c (call (k0_part33 (F := F)) >>= k)) := by
  rw [k0_part33_eq_skeleton]
  unfold call k0_part33_skel
  simp only [semSignalWord, semWaitWord, Prog.lift, Prog.bind_op, Prog.bind_ret, Prog.pure_eq_ret, Prog.bind_assoc, wp_deviceId]
  iintro #Hk HO Y0 Y1 V0 V1 V2 V3 V4 Hw
  iapply (wait m ρ c 6 0 1 35 (by decide) (by decide) (by decide) sem15 (P := some' bY1 c 48 96) hold_to_some) $$ Hk HO V0
  iintro HO Z0 N
  ihave Y1 := (join_any c 0 48 96 (by decide) (by decide)) $$ Y1 N
  iapply (wait m ρ c 4 0 2 35 (by decide) (by decide) (by decide) sem13 (P := some' bY0 c 96 144) hold_to_some) $$ Hk HO V1
  iintro HO Z1 N
  ihave Y0 := (join_any c 0 96 144 (by decide) (by decide)) $$ Y0 N
  iapply (wait m ρ c 6 0 2 35 (by decide) (by decide) (by decide) sem15 (P := some' bY1 c 96 144) hold_to_some) $$ Hk HO V2
  iintro HO Z2 N
  ihave Y1 := (join_any c 0 96 144 (by decide) (by decide)) $$ Y1 N
  iapply (wait m ρ c 4 0 3 35 (by decide) (by decide) (by decide) sem13 (P := some' bY0 c 144 192) hold_to_some) $$ Hk HO V3
  iintro HO Z3 N
  ihave Y0 := (join_any c 0 144 192 (by decide) (by decide)) $$ Y0 N
  iapply (wait m ρ c 6 0 3 35 (by decide) (by decide) (by decide) sem15 (P := some' bY1 c 144 192) hold_to_some) $$ Hk HO V4
  iintro HO Z4 N
  ihave Y1 := (join_any c 0 144 192 (by decide) (by decide)) $$ Y1 N
  iapply Hw $$ HO Y0 Y1 Z0 Z1 Z2 Z3 Z4

/-- All return transfers but one are done. -/
theorem part34 {k : PUnit → Prog (TpuEff nD τ sig (Elt F) Λ₀ .tc) α} :
    known m ρ ⊢ iprop(own c 35 -∗ some' bY0 c 0 192 -∗ some' bY1 c 0 192 -∗ Wt c 4 0 4 -∗ Wt c 6 0 4 -∗ Wt c 4 0 5 -∗ Wt c 6 0 5 -∗ Wt c 4 0 6 -∗ (own c 35 -∗ some' bY0 c 0 336 -∗ some' bY1 c 0 288 -∗ Z c 4 4 -∗ Z c 6 4 -∗ Z c 4 5 -∗ Z c 6 5 -∗ Z c 4 6 -∗ run Q c (k ⟨⟩)) -∗ run Q c (call (k0_part34 (F := F)) >>= k)) := by
  rw [k0_part34_eq_skeleton]
  unfold call k0_part34_skel
  simp only [semSignalWord, semWaitWord, Prog.lift, Prog.bind_op, Prog.bind_ret, Prog.pure_eq_ret, Prog.bind_assoc, wp_deviceId]
  iintro #Hk HO Y0 Y1 V0 V1 V2 V3 V4 Hw
  iapply (wait m ρ c 4 0 4 35 (by decide) (by decide) (by decide) sem13 (P := some' bY0 c 192 240) hold_to_some) $$ Hk HO V0
  iintro HO Z0 N
  ihave Y0 := (join_any c 0 192 240 (by decide) (by decide)) $$ Y0 N
  iapply (wait m ρ c 6 0 4 35 (by decide) (by decide) (by decide) sem15 (P := some' bY1 c 192 240) hold_to_some) $$ Hk HO V1
  iintro HO Z1 N
  ihave Y1 := (join_any c 0 192 240 (by decide) (by decide)) $$ Y1 N
  iapply (wait m ρ c 4 0 5 35 (by decide) (by decide) (by decide) sem13 (P := some' bY0 c 240 288) hold_to_some) $$ Hk HO V2
  iintro HO Z2 N
  ihave Y0 := (join_any c 0 240 288 (by decide) (by decide)) $$ Y0 N
  iapply (wait m ρ c 6 0 5 35 (by decide) (by decide) (by decide) sem15 (P := some' bY1 c 240 288) hold_to_some) $$ Hk HO V3
  iintro HO Z3 N
  ihave Y1 := (join_any c 0 240 288 (by decide) (by decide)) $$ Y1 N
  iapply (wait m ρ c 4 0 6 35 (by decide) (by decide) (by decide) sem13 (P := some' bY0 c 288 336) hold_to_some) $$ Hk HO V4
  iintro HO Z4 N
  ihave Y0 := (join_any c 0 288 336 (by decide) (by decide)) $$ Y0 N
  iapply Hw $$ HO Y0 Y1 Z0 Z1 Z2 Z3 Z4

end Parts

end Cert.KernelIdeal.Run

end
-- ==== Proof.KernelIdealBody4.lean ====
/-
# The kernel on its own buffers

The parts in order: from what a device starts with to what it ends with.
-/
module

public import proofs.«01_k».proof.Proof.KernelIdealBody3

@[expose] public section

noncomputable section

namespace Cert.KernelIdeal.Run

open Cert.KernelIdeal Cert.KernelIdeal.Gen Cert.Rows

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ) (ρ : Dev nD → PrngReg)

set_option maxHeartbeats 1000000

/-- Seven of a kind. -/
abbrev sep7 (f : ℕ → sProp (MT nD τ sig ℕ (Elt F) ℕ UU ℕ)) : sProp (MT nD τ sig ℕ (Elt F) ℕ UU ℕ) := iprop(f 0 ∗ f 1 ∗ f 2 ∗ f 3 ∗ f 4 ∗ f 5 ∗ f 6)

theorem sep7_intro (f : ℕ → sProp (MT nD τ sig ℕ (Elt F) ℕ UU ℕ)) : f 0 ⊢ iprop(f 1 -∗ f 2 -∗ f 3 -∗ f 4 -∗ f 5 -∗ f 6 -∗ sep7 f) := by
  iintro A B C D E G H
  isplitl [A]; · iexact A
  isplitl [B]; · iexact B
  isplitl [C]; · iexact C
  isplitl [D]; · iexact D
  isplitl [E]; · iexact E
  isplitl [G]; · iexact G
  iexact H

section Parts
variable {α : Type} {Q : α → sProp (MT nD τ sig ℕ (Elt F) ℕ UU ℕ)} (c : Dev nD)

/-- One step of cutting the landing buffers into the pieces the signals give away. -/
theorem cut_one {τ' a b a' b' : ℕ} (h : τ' < 7) (ha : a = 48 * τ') (hb : b = 96 * (τ' + 1)) (ha' : a' = a + 48) (hb' : b' = b + 96) :
    (some' bX0 c a 384 : sProp 𝕄) ⊢ iprop(some' bX1 c a 384 -∗ some' bYr c b 768
      -∗ (mine c τ' ∗ some' bX0 c a' 384 ∗ some' bX1 c a' 384 ∗ some' bYr c b' 768)) := by
  subst ha hb ha' hb'
  rw [mine_eq c h]
  iintro X0 X1 R
  ihave X0 := (some_split (lo := 48 * τ') (mid := 48 * τ' + 48) (hi := 384) (by omega) (by omega)) $$ X0
  icases X0 with ⟨A, X0⟩
  ihave X1 := (some_split (lo := 48 * τ') (mid := 48 * τ' + 48) (hi := 384) (by omega) (by omega)) $$ X1
  icases X1 with ⟨B, X1⟩
  ihave R := (some_split (lo := 96 * (τ' + 1)) (mid := 96 * (τ' + 1) + 96) (hi := 768) (by omega) (by omega)) $$ R
  icases R with ⟨C, R⟩
  ihave C := (some_split (lo := 96 * (τ' + 1)) (mid := 96 * (τ' + 1) + 48) (hi := 96 * (τ' + 1) + 96) (by omega) (by omega)) $$ C
  icases C with ⟨C, D⟩
  isplitl [A B C D]
  · isplitl [A]; · iexact A
    isplitl [B]; · iexact B
    isplitl [C]; · iexact C
    iexact D
  isplitl [X0]; · iexact X0
  isplitl [X1]; · iexact X1
  iexact R

/-- The whole kernel on one device. -/
theorem body_run {Q : PUnit → sProp (MT nD τ sig ℕ (Elt F) ℕ UU ℕ)} :
    known m ρ ⊢ iprop(own c 0 -∗ atPos ER (barCell c) 0 ∅ 0 -∗ cred (tallyAt (barCell c) 1 7) -∗ sep7 (fun t => btok (pl c (t + 1)) (6 - t)) -∗ sep7 (Out c 0) -∗ sep7 (Out c 1) -∗ sep7 (Out c 2) -∗ sep7 (Out c 3) -∗ sep7 (Wt c 1 2) -∗ sep7 (Wt c 3 2) -∗ sep7 (Wt c 5 3) -∗ sep7 (Wt c 7 3) -∗ some' bPall c 0 768 -∗ some' bDs c 0 768 -∗ some' bX0 c 0 384 -∗ some' bX1 c 0 384 -∗ some' bY0 c 0 384 -∗ some' bY1 c 0 384 -∗ some' bYr c 0 768 -∗ (∃ f, full bW1 c f) -∗ (∃ f, full bW2 c f) -∗ full bS0 c (XS m ρ c) -∗ full bS1 c (AS m ρ c) -∗ full bS2 c (W1S m ρ c) -∗ full bS3 c (W2S m ρ c) -∗ (∃ f, full bS4 c f)
      -∗ (own c 35 -∗ semVal (barCell c) 0 -∗ sep7 (Z c 0) -∗ sep7 (Z c 1) -∗ sep7 (Z c 2) -∗ sep7 (Z c 3) -∗ sep7 (Z c 4) -∗ sep7 (Z c 5) -∗ sep7 (Z c 6) -∗ sep7 (Z c 7) -∗ some' bPall c 0 768 -∗ some' bDs c 0 768 -∗ some' bX0 c 0 384 -∗ some' bX1 c 0 384 -∗ some' bY0 c 0 384 -∗ some' bY1 c 0 384 -∗ some' bYr c 0 768 -∗ (∃ f, full bW1 c f) -∗ (∃ f, full bW2 c f) -∗ full bS0 c (XS m ρ c) -∗ full bS1 c (AS m ρ c) -∗ full bS2 c (W1S m ρ c) -∗ full bS3 c (W2S m ρ c) -∗ full bS4 c (OUT m ρ c) -∗ run Q c (.ret ⟨⟩ ))
      -∗ run Q c (call (cc0_body (F := F)) )) := by
  rw [cc0_body_eq_skeleton]
  unfold call cc0_body_skel
  iintro #Hk HO Hat Hcr HT HQ0 HQ1 HQ2 HQ3 HV1 HV3 HV5 HV7 HP HD X0 X1 Y0 Y1 R HA HB S0 S1 S2 S3 S4 Hw
  icases HT with ⟨T0, T1, T2, T3, T4, T5, T6⟩
  icases HQ0 with ⟨Q0_0, Q0_1, Q0_2, Q0_3, Q0_4, Q0_5, Q0_6⟩
  icases HQ1 with ⟨Q1_0, Q1_1, Q1_2, Q1_3, Q1_4, Q1_5, Q1_6⟩
  icases HQ2 with ⟨Q2_0, Q2_1, Q2_2, Q2_3, Q2_4, Q2_5, Q2_6⟩
  icases HQ3 with ⟨Q3_0, Q3_1, Q3_2, Q3_3, Q3_4, Q3_5, Q3_6⟩
  icases HV1 with ⟨V1_0, V1_1, V1_2, V1_3, V1_4, V1_5, V1_6⟩
  icases HV3 with ⟨V3_0, V3_1, V3_2, V3_3, V3_4, V3_5, V3_6⟩
  icases HV5 with ⟨V5_0, V5_1, V5_2, V5_3, V5_4, V5_5, V5_6⟩
  icases HV7 with ⟨V7_0, V7_1, V7_2, V7_3, V7_4, V7_5, V7_6⟩
  ihave Hx := (some_split (lo := 0) (mid := 96) (hi := 768) (by decide) (by decide)) $$ R
  icases Hx with ⟨R0, R⟩
  ihave Hx := (some_split (lo := 0) (mid := 48) (hi := 96) (by decide) (by decide)) $$ R0
  icases Hx with ⟨R0, R1⟩
  ihave Hx := (cut_one c (τ' := 0) (a := 0) (b := 96) (a' := 48) (b' := 192) (by decide) rfl rfl rfl rfl) $$ X0 X1 R
  icases Hx with ⟨M0, X0, X1, R⟩
  ihave Hx := (cut_one c (τ' := 1) (a := 48) (b := 192) (a' := 96) (b' := 288) (by decide) rfl rfl rfl rfl) $$ X0 X1 R
  icases Hx with ⟨M1, X0, X1, R⟩
  ihave Hx := (cut_one c (τ' := 2) (a := 96) (b := 288) (a' := 144) (b' := 384) (by decide) rfl rfl rfl rfl) $$ X0 X1 R
  icases Hx with ⟨M2, X0, X1, R⟩
  ihave Hx := (cut_one c (τ' := 3) (a := 144) (b := 384) (a' := 192) (b' := 480) (by decide) rfl rfl rfl rfl) $$ X0 X1 R
  icases Hx with ⟨M3, X0, X1, R⟩
  ihave Hx := (cut_one c (τ' := 4) (a := 192) (b := 480) (a' := 240) (b' := 576) (by decide) rfl rfl rfl rfl) $$ X0 X1 R
  icases Hx with ⟨M4, X0, X1, R⟩
  ihave Hx := (cut_one c (τ' := 5) (a := 240) (b := 576) (a' := 288) (b' := 672) (by decide) rfl rfl rfl rfl) $$ X0 X1 R
  icases Hx with ⟨M5, X0, X1, R⟩
  ihave Hx := (cut_one c (τ' := 6) (a := 288) (b := 672) (a' := 336) (b' := 768) (by decide) rfl rfl rfl rfl) $$ X0 X1 R
  icases Hx with ⟨M6, X0, X1, R⟩
  ihave Hx := (some_split (lo := 0) (mid := 96) (hi := 768) (by decide) (by decide)) $$ HP
  icases Hx with ⟨PC, HP⟩
  ihave Hx := (some_split (lo := 96) (mid := 480) (hi := 768) (by decide) (by decide)) $$ HP
  icases Hx with ⟨PA, PB⟩
  ihave Hx := (some_split (lo := 0) (mid := 96) (hi := 768) (by decide) (by decide)) $$ HD
  icases Hx with ⟨D0, HD⟩
  ihave Hx := (some_split (lo := 96) (mid := 192) (hi := 768) (by decide) (by decide)) $$ HD
  icases Hx with ⟨D1, HD⟩
  ihave Hx := (some_split (lo := 192) (mid := 288) (hi := 768) (by decide) (by decide)) $$ HD
  icases Hx with ⟨D2, HD⟩
  ihave Hx := (some_split (lo := 288) (mid := 384) (hi := 768) (by decide) (by decide)) $$ HD
  icases Hx with ⟨D3, HD⟩
  ihave Hx := (some_split (lo := 384) (mid := 480) (hi := 768) (by decide) (by decide)) $$ HD
  icases Hx with ⟨D4, HD⟩
  ihave Hx := (some_split (lo := 480) (mid := 576) (hi := 768) (by decide) (by decide)) $$ HD
  icases Hx with ⟨D5, HD⟩
  ihave Hx := (some_split (lo := 576) (mid := 672) (hi := 768) (by decide) (by decide)) $$ HD
  icases Hx with ⟨D6, HD⟩
  irename HD => D7
  ihave Hx := (some_split (lo := 0) (mid := 192) (hi := 384) (by decide) (by decide)) $$ Y0
  icases Hx with ⟨Y0, Y0b⟩
  ihave Hx := (some_split (lo := 0) (mid := 192) (hi := 384) (by decide) (by decide)) $$ Y1
  icases Hx with ⟨Y1, Y1b⟩
  iapply (part1 m ρ c) $$ Hk HO T0 M0 T1 M1 T2 M2 T3 M3 T4 M4
  iintro HO
  iapply (part2 m ρ c _ _) $$ Hk HO T5 M5 T6 M6 S0 S1 Hat Hcr
  iintro HO Hz P0 P1 P2 P3 P4 P5 P6 S0 S1
  ihave Hx := (Entails.of_eq (peer_eq c 0)) $$ P0
  icases Hx with ⟨L0_0, L1_0, L2_0, L3_0⟩
  ihave Hx := (Entails.of_eq (peer_eq c 1)) $$ P1
  icases Hx with ⟨L0_1, L1_1, L2_1, L3_1⟩
  ihave Hx := (Entails.of_eq (peer_eq c 2)) $$ P2
  icases Hx with ⟨L0_2, L1_2, L2_2, L3_2⟩
  ihave Hx := (Entails.of_eq (peer_eq c 3)) $$ P3
  icases Hx with ⟨L0_3, L1_3, L2_3, L3_3⟩
  ihave Hx := (Entails.of_eq (peer_eq c 4)) $$ P4
  icases Hx with ⟨L0_4, L1_4, L2_4, L3_4⟩
  ihave Hx := (Entails.of_eq (peer_eq c 5)) $$ P5
  icases Hx with ⟨L0_5, L1_5, L2_5, L3_5⟩
  ihave Hx := (Entails.of_eq (peer_eq c 6)) $$ P6
  icases Hx with ⟨L0_6, L1_6, L2_6, L3_6⟩
  dsimp only
  rw [part3]
  iapply (part4 m ρ c _) $$ Hk PA
  iintro PA
  iapply (part5 m ρ c _ _) $$ Hk HO PA D1 Q0_0 L0_0 Q1_0 L1_0 D2
  iintro HO PA W0_0 W2_0 D2 D2b
  iapply (part6 m ρ c _ _) $$ Hk HO PA D2 Q0_1 L0_1 D2b Q1_1 L1_1 D3
  iintro HO PA W0_1 W2_1 D3 D3b
  iapply (part7 m ρ c _ _) $$ Hk HO PA D3 Q0_2 L0_2 D3b Q1_2 L1_2 D4 Q0_3 L0_3
  iintro HO PA W0_2 W2_2 W0_3 D4
  iapply (part8 m ρ c) $$ Hk HO D4 Q1_3 L1_3
  iintro HO W2_3
  dsimp only
  rw [part9]
  iapply (part10 m ρ c _) $$ Hk HO PB D5 Q0_4 L0_4 Q1_4 L1_4
  iintro HO PB W0_4 W2_4
  iapply (part11 m ρ c _ _) $$ Hk HO PB D6 Q0_5 L0_5 Q1_5 L1_5
  iintro HO PB W0_5 W2_5
  iapply (part12 m ρ c _) $$ Hk HO D7 Q0_6 L0_6 Q1_6 L1_6
  iintro HO W0_6 W2_6
  dsimp only
  rw [part13]
  iapply (part14 m ρ c) $$ Hk PC X0 X1
  iintro PC X0s X1s
  ihave PC := (join c 0 96 480 (by decide) (by decide)) $$ PC PA
  ihave PC := (join c 0 480 768 (by decide) (by decide)) $$ PC PB
  iapply (part15 m ρ c _) $$ Hk HO S2 HA S3 HB V1_0 V3_0
  iintro HO S2 HA S3 HB Z1_0 Z3_0 X0 X1
  iapply (part16 m ρ c _) $$ Hk HO X0 X1 V1_1 V3_1 V1_2 V3_2
  iintro HO X0 X1 Z1_1 Z3_1 Z1_2 Z3_2
  iapply (part17 m ρ c _) $$ Hk HO X0 X1 V1_3 V3_3 HA HB Y0
  iintro HO X0 X1 Z1_3 Z3_3 HA HB Y0
  iapply (part18 m ρ c _) $$ Hk HO HB Y1 Y0 Q2_0 L2_0 Q3_0 L3_0
  iintro HO HB Y0 Y1 W4_0 W6_0
  iapply (part19 m ρ c _ _) $$ Hk HO Y0 Y1 Q2_1 L2_1 Q3_1 L3_1 Q2_2 L2_2
  iintro HO Y0 Y1 W4_1 W6_1 W4_2
  iapply (part20 m ρ c _ _ _) $$ Hk HO Y0 Y1 Q3_2 L3_2 Q2_3 L2_3 Q3_3 L3_3
  iintro HO W6_2 W4_3 W6_3
  iapply (part21 m ρ c _) $$ Hk HO V1_4 V3_4 V1_5 V3_5
  iintro HO X0h X1h Z1_4 Z3_4 Z1_5 Z3_5
  iapply (part22 m ρ c _) $$ Hk HO X0h X1h X0s X1s V1_6 V3_6 HA HB Y0b
  iintro HO X0h X1h Z1_6 Z3_6 HA HB Y0
  iapply (part23 m ρ c _) $$ Hk HO HB Y1b Y0 Q2_4 L2_4 Q3_4 L3_4
  iintro HO HB Y0 Y1 W4_4 W6_4
  iapply (part24 m ρ c _ _) $$ Hk HO Y0 Y1 Q2_5 L2_5 Q3_5 L3_5 Q2_6 L2_6
  iintro HO Y0s Y1 W4_5 W6_5 W4_6
  iapply (part25 m ρ c _ _ _) $$ Hk HO Y0s Y1 Q3_6 L3_6 R0 R1 V5_3 V7_3
  iintro HO W6_6 Y0s Y1s R0 Z5_3 Z7_3 Rh
  iapply (part26 m ρ c _) $$ Hk HO Rh V5_4 V7_4 V5_5 V7_5
  iintro HO Rh Z5_4 Z7_4 Z5_5 Z7_5
  iapply (part27 m ρ c _) $$ Hk HO Rh R0 PC V5_6 V7_6
  iintro HO Rh R0 PC Z5_6 Z7_6
  iapply (part28 m ρ c _) $$ Hk HO V5_0 V7_0 V5_1 V7_1
  iintro HO Rl Z5_0 Z7_0 Z5_1 Z7_1
  iapply (part29 m ρ c _) $$ Hk HO Rl PC V5_2 V7_2 S4 D0 W0_0 W2_0
  iintro HO Rl PC Z5_2 Z7_2 S4 HD Z0_0 Z2_0
  iapply (part30 m ρ c) $$ Hk HO HD W0_1 W2_1 W0_2 W2_2 W0_3
  iintro HO HD Z0_1 Z2_1 Z0_2 Z2_2 Z0_3
  iapply (part31 m ρ c) $$ Hk HO HD W2_3 W0_4 W2_4 W0_5 W2_5
  iintro HO HD Z2_3 Z0_4 Z2_4 Z0_5 Z2_5
  iapply (part32 m ρ c) $$ Hk HO HD W0_6 W2_6 W4_0 W6_0 W4_1
  iintro HO HD Y0 Y1 Z0_6 Z2_6 Z4_0 Z6_0 Z4_1
  iapply (part33 m ρ c) $$ Hk HO Y0 Y1 W6_1 W4_2 W6_2 W4_3 W6_3
  iintro HO Y0 Y1 Z6_1 Z4_2 Z6_2 Z4_3 Z6_3
  iapply (part34 m ρ c) $$ Hk HO Y0 Y1 W4_4 W6_4 W4_5 W6_5 W4_6
  iintro HO Y0 Y1 Z4_4 Z6_4 Z4_5 Z6_5 Z4_6
  simp only [Prog.lift, Prog.bind_op, Prog.bind_ret, Prog.pure_eq_ret]
  iapply (wait m ρ c 6 0 6 35 (by decide) (by decide) (by decide) sem15 (P := some' bY1 c 288 336) hold_to_some) $$ Hk HO W6_6
  iintro HO Z6_6 N
  ihave Y1 := (join_any c 0 288 336 (by decide) (by decide)) $$ Y1 N
  ihave N := hold_to_some $$ Y1s
  ihave Y1 := (join_any c 0 336 384 (by decide) (by decide)) $$ Y1 N
  ihave N := hold_to_some $$ Y0s
  ihave Y0 := (join_any c 0 336 384 (by decide) (by decide)) $$ Y0 N
  ihave X0 := (join c 0 192 384 (by decide) (by decide)) $$ X0 X0h
  ihave X0 := hold_to_some $$ X0
  ihave X1 := (join c 0 192 384 (by decide) (by decide)) $$ X1 X1h
  ihave X1 := hold_to_some $$ X1
  ihave R0 := (join c 0 96 384 (by decide) (by decide)) $$ R0 Rl
  ihave R0 := (join c 0 384 768 (by decide) (by decide)) $$ R0 Rh
  ihave R0 := hold_to_some $$ R0
  ihave PC := hold_to_some $$ PC
  iapply Hw $$ HO Hz [Z0_0 Z0_1 Z0_2 Z0_3 Z0_4 Z0_5 Z0_6] [Z1_0 Z1_1 Z1_2 Z1_3 Z1_4 Z1_5 Z1_6] [Z2_0 Z2_1 Z2_2 Z2_3 Z2_4 Z2_5 Z2_6] [Z3_0 Z3_1 Z3_2 Z3_3 Z3_4 Z3_5 Z3_6] [Z4_0 Z4_1 Z4_2 Z4_3 Z4_4 Z4_5 Z4_6] [Z5_0 Z5_1 Z5_2 Z5_3 Z5_4 Z5_5 Z5_6] [Z6_0 Z6_1 Z6_2 Z6_3 Z6_4 Z6_5 Z6_6] [Z7_0 Z7_1 Z7_2 Z7_3 Z7_4 Z7_5 Z7_6] PC HD X0 X1 Y0 Y1 R0 [HA] [HB] S0 S1 S2 S3 S4
  · iapply (sep7_intro (Z c 0)) $$ Z0_0 Z0_1 Z0_2 Z0_3 Z0_4 Z0_5 Z0_6
  · iapply (sep7_intro (Z c 1)) $$ Z1_0 Z1_1 Z1_2 Z1_3 Z1_4 Z1_5 Z1_6
  · iapply (sep7_intro (Z c 2)) $$ Z2_0 Z2_1 Z2_2 Z2_3 Z2_4 Z2_5 Z2_6
  · iapply (sep7_intro (Z c 3)) $$ Z3_0 Z3_1 Z3_2 Z3_3 Z3_4 Z3_5 Z3_6
  · iapply (sep7_intro (Z c 4)) $$ Z4_0 Z4_1 Z4_2 Z4_3 Z4_4 Z4_5 Z4_6
  · iapply (sep7_intro (Z c 5)) $$ Z5_0 Z5_1 Z5_2 Z5_3 Z5_4 Z5_5 Z5_6
  · iapply (sep7_intro (Z c 6)) $$ Z6_0 Z6_1 Z6_2 Z6_3 Z6_4 Z6_5 Z6_6
  · iapply (sep7_intro (Z c 7)) $$ Z7_0 Z7_1 Z7_2 Z7_3 Z7_4 Z7_5 Z7_6
  · iexists _; iexact HA
  · iexists _; iexact HB

end Parts

end Cert.KernelIdeal.Run

end
-- ==== Proof.KernelIdealLaunch.lean ====
/-
# The ghost state at launch

Every device's cells and tokens are minted at once, its semaphores put under the schedule, and the tokens dealt around
the mesh: a device gets those of the duties it pays, and the credit its waits spend.
-/
module

public import proofs.«01_k».proof.Proof.KernelIdealBody4

@[expose] public section

noncomputable section

namespace Cert.KernelIdeal.Run

open Cert.KernelIdeal Cert.KernelIdeal.Gen Cert.Rows

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ) (ρ : Dev nD → PrngReg)

/-! ## Seven of a kind, over an index -/

omit [FloatOps F] in
theorem sep_eq {P P' Q Q' : sProp (MT nD τ sig ℕ (Elt F) ℕ UU ℕ)} (h : P = P') (h' : Q = Q') : iprop(P ∗ Q) = iprop(P' ∗ Q') := by rw [h, h']

/-- The entries of an array of seven. -/
def all7 (f : ℕ → sProp (MT nD τ sig ℕ (Elt F) ℕ UU ℕ)) : sProp (MT nD τ sig ℕ (Elt F) ℕ UU ℕ) := bigSep Finset.univ fun v : Fin 7 => f v.val

omit [FloatOps F] in
theorem all7_eq (f : ℕ → sProp (MT nD τ sig ℕ (Elt F) ℕ UU ℕ)) : all7 f = sep7 f := by
  unfold all7; rw [bigSep_univ_eq_bigSepL [0, 1, 2, 3, 4, 5, 6] (by decide) (by decide)]; rfl

omit [FloatOps F] in
theorem all7_sep (f g : ℕ → sProp (MT nD τ sig ℕ (Elt F) ℕ UU ℕ)) : all7 (fun v => iprop(f v ∗ g v)) = iprop(all7 f ∗ all7 g) := bigSep_sep' _ _ _

omit [FloatOps F] in
theorem all7_rev (f : ℕ → sProp (MT nD τ sig ℕ (Elt F) ℕ UU ℕ)) : all7 (fun v => f (6 - v)) = all7 f := by
  unfold all7
  rw [bigSep_univ_equiv Fin.revPerm fun v : Fin 7 => f v.val]
  refine bigSep_congr fun v _ => congrArg f ?_
  have := v.isLt
  show 6 - v.val = 7 - (v.val + 1)
  omega

/-- The eight arrays. -/
abbrev all8 (f : ℕ → ℕ → sProp (MT nD τ sig ℕ (Elt F) ℕ UU ℕ)) : sProp (MT nD τ sig ℕ (Elt F) ℕ UU ℕ) :=
  iprop(all7 (f 0) ∗ all7 (f 1) ∗ all7 (f 2) ∗ all7 (f 3) ∗ all7 (f 4) ∗ all7 (f 5) ∗ all7 (f 6) ∗ all7 (f 7))

omit [FloatOps F] in
theorem all8_eq (f : ℕ → ℕ → sProp (MT nD τ sig ℕ (Elt F) ℕ UU ℕ)) :
    (bigSep Finset.univ fun x : Fin 8 × Fin 7 => f x.1.val x.2.val) = all8 f := by
  rw [bigSep_univ_prod, bigSep_univ_eq_bigSepL [0, 1, 2, 3, 4, 5, 6, 7] (by decide) (by decide)]; rfl

/-- The mesh turned by `t`. -/
def turn (t : ℕ) : Dev nD ≃ Dev nD where
  toFun c := pl c (t + 1)
  invFun c := pl c (7 * t + 7)
  left_inv c := by show pl (pl c (t + 1)) (7 * t + 7) = c; rw [pl_pl, pl_of_dvd c (by omega)]
  right_inv c := by show pl (pl c (7 * t + 7)) (t + 1) = c; rw [pl_pl, pl_of_dvd c (by omega)]

omit [FloatOps F] in
/-- Something every device has seven of, dealt around the mesh. -/
theorem around (Φ : Dev nD → ℕ → sProp (MT nD τ sig ℕ (Elt F) ℕ UU ℕ)) :
    (bigSep Finset.univ fun c : Dev nD => all7 (Φ c)) = bigSep Finset.univ fun c : Dev nD => all7 fun t => Φ (pl c (t + 1)) (6 - t) := by
  have h : (fun c : Dev nD => all7 (Φ c)) = fun c => all7 fun t => Φ c (6 - t) := funext fun c => (all7_rev (Φ c)).symm
  rw [h]
  unfold all7
  rw [bigSep_univ_comm, bigSep_univ_comm (fun (c : Dev nD) (t : Fin 7) => Φ (pl c (t.val + 1)) (6 - t.val))]
  exact bigSep_congr fun t _ => bigSep_univ_equiv (turn t.val) fun c : Dev nD => Φ c (6 - t.val)

/-! ## The cells and the tokens -/

/-- The transfer semaphores, and every cell. -/
def osem (x : Fin 8 × Fin 7) : SemLoc sig := .dma (ds x.1.val x.2.val)

def cellAt : Dev nD ⊕ Dev nD × Fin 8 × Fin 7 → GSem nD τ sig
  | .inl c => barCell c
  | .inr x => ((x.1 : Thread nD τ), osem x.2)

theorem reg_ne_dma (s : Sem sig) (q : DmaSem sig) : (SemLoc.reg s : SemLoc sig) ≠ .dma q := fun h => by cases h

theorem osem_inj : Function.Injective osem := fun x y h => by
  have h' : ds x.1.val x.2.val = ds y.1.val y.2.val := SemLoc.dma.inj h
  obtain ⟨h1, h2⟩ := ds_inj x.1.isLt x.2.isLt y.1.isLt y.2.isLt h'
  exact Prod.ext (Fin.ext h1) (Fin.ext h2)

theorem cellAt_inj : Function.Injective cellAt := by
  rintro (c | ⟨c, x⟩) (c' | ⟨c', x'⟩) h
  · exact congrArg Sum.inl (congrArg (fun g : GSem nD τ sig => g.1.1) h)
  · exact (reg_ne_dma _ _ (congrArg Prod.snd h)).elim
  · exact (reg_ne_dma _ _ (congrArg Prod.snd h).symm).elim
  · have h1 : c = c' := congrArg (fun g : GSem nD τ sig => g.1.1) h
    have h2 : x = x' := osem_inj (congrArg Prod.snd h)
    rw [h1, h2]

def tokAt : Dev nD × Fin 7 ⊕ Dev nD × Fin 8 × Fin 7 → GSem nD τ sig × ℕ × Fin 7
  | .inl x => (barCell x.1, 0, x.2)
  | .inr x => (((x.1 : Thread nD τ), osem x.2), 0, 0)

theorem tokAt_inj : Function.Injective tokAt := by
  rintro (⟨c, σ⟩ | ⟨c, x⟩) (⟨c', σ'⟩ | ⟨c', x'⟩) h
  · have h1 : c = c' := congrArg (fun y : GSem nD τ sig × ℕ × Fin 7 => y.1.1.1) h
    have h2 : σ = σ' := congrArg (fun y : GSem nD τ sig × ℕ × Fin 7 => y.2.2) h
    rw [h1, h2]
  · exact (reg_ne_dma _ _ (congrArg (fun y : GSem nD τ sig × ℕ × Fin 7 => y.1.2) h)).elim
  · exact (reg_ne_dma _ _ (congrArg (fun y : GSem nD τ sig × ℕ × Fin 7 => y.1.2) h).symm).elim
  · have h1 : c = c' := congrArg (fun y : GSem nD τ sig × ℕ × Fin 7 => y.1.1.1) h
    have h2 : x = x' := osem_inj (congrArg (fun y : GSem nD τ sig × ℕ × Fin 7 => y.1.2) h)
    rw [h1, h2]

def allCells : Finset (GSem nD τ sig) := Finset.univ.map ⟨cellAt, cellAt_inj⟩
def allToks : Finset (GSem nD τ sig × ℕ × Fin 7) := Finset.univ.map ⟨tokAt, tokAt_inj⟩

/-- The state the launch starts from: the staging cells, and the kernel's own. -/
def u₀ : UU := (initOf (Pipeline.cells cfgs cellOf_inj) (Pipeline.launchToks cfgs cellOf_inj), initOf allCells allToks)

/-- Something of every cell, device by device. -/
theorem cells_eq (Φ : GSem nD τ sig → sProp (MT nD τ sig ℕ (Elt F) ℕ UU ℕ)) :
    bigSep allCells Φ = bigSep Finset.univ fun c : Dev nD => iprop(Φ (barCell c) ∗ all8 fun k v => Φ (dcell c k v)) := by
  unfold allCells
  rw [bigSep_map, bigSep_univ_sum, bigSep_sep', bigSep_univ_prod]
  refine sep_eq rfl (bigSep_congr fun c _ => ?_)
  exact all8_eq fun k v => Φ (dcell c k v)

/-- The tokens of a device's own cells. -/
def toks (c : Dev nD) : sProp 𝕄 := iprop(all7 (btok c) ∗ all8 (tok c))

omit [FloatOps F] in
theorem toks_eq : (bigSep allToks fun x => (dutyTok ER x.1 x.2.1 x.2.2 : sProp 𝕄)) = bigSep Finset.univ fun c : Dev nD => toks c := by
  unfold allToks toks
  rw [bigSep_map, bigSep_univ_sum, bigSep_sep', bigSep_univ_prod, bigSep_univ_prod]
  have h1 : (bigSep Finset.univ fun c : Dev nD => bigSep Finset.univ fun σ : Fin 7 => (dutyTok ER (barCell c) 0 σ : sProp 𝕄))
      = bigSep Finset.univ fun c : Dev nD => all7 (btok c) :=
    bigSep_congr fun c _ => bigSep_congr fun σ _ => by
      exact congrArg (dutyTok ER (barCell c) 0) (Fin.ext (Nat.mod_eq_of_lt σ.isLt).symm)
  have h2 : (bigSep Finset.univ fun c : Dev nD => bigSep Finset.univ fun x : Fin 8 × Fin 7 => (dutyTok ER ((c : Thread nD τ), osem x) 0 (0 : Fin 7) : sProp 𝕄))
      = bigSep Finset.univ fun c : Dev nD => all8 (tok c) := bigSep_congr fun c _ => all8_eq (tok c)
  exact sep_eq h1 h2

/-- What the launch deals a device. -/
def G (c : Dev nD) : sProp 𝕄 :=
  iprop((roundState ER (Rd m ρ) (barCell c) 0 ∗ all8 fun k v => roundState ER (Rd m ρ) (dcell c k v) 0)
    ∗ (reached ER (barCell c) 0 ∗ all8 fun k v => reached ER (dcell c k v) 0)
    ∗ (atPos ER (barCell c) 0 ∅ 0 ∗ all8 (pos c)) ∗ toks c)

theorem fund_all : BI.own (ER (initOf allCells allToks)) ⊢ (|==> bigSep Finset.univ (G m ρ) : sProp 𝕄) := by
  iintro HX
  imod (Rounds.fund ER (Rd m ρ) allCells allToks) $$ HX with ⟨Hst, Hr, Hat, Htok⟩
  imodintro
  ihave Hst' := (Entails.of_eq (cells_eq fun g => roundState ER (Rd m ρ) g 0)) $$ Hst
  ihave Hat' := (Entails.of_eq (cells_eq fun g => (atPos ER g 0 ∅ 0 : sProp 𝕄))) $$ Hat
  ihave Hr' := (Entails.of_eq (cells_eq fun g => (reached ER g 0 : sProp 𝕄))) $$ Hr
  ihave Htok' := (Entails.of_eq toks_eq) $$ Htok
  iapply (Entails.of_eq (show iprop((bigSep Finset.univ fun c : Dev nD => iprop(roundState ER (Rd m ρ) (barCell c) 0 ∗ all8 fun k v => roundState ER (Rd m ρ) (dcell c k v) 0))
      ∗ (bigSep Finset.univ fun c : Dev nD => iprop(reached ER (barCell c) 0 ∗ all8 fun k v => reached ER (dcell c k v) 0))
      ∗ (bigSep Finset.univ fun c : Dev nD => iprop(atPos ER (barCell c) 0 ∅ 0 ∗ all8 (pos c)))
      ∗ bigSep Finset.univ fun c : Dev nD => toks c) = (bigSep Finset.univ (G m ρ) : sProp 𝕄) from by
    rw [← bigSep_sep', ← bigSep_sep', ← bigSep_sep']; rfl))
  isplitl [Hst']; · iexact Hst'
  isplitl [Hr']; · iexact Hr'
  isplitl [Hat']; · iexact Hat'
  iexact Htok'

end Cert.KernelIdeal.Run

end
-- ==== Proof.KernelIdealStart.lean ====
/-
# The launch

The semaphores of every device go under the schedule at once; each device starts with its positions, the tokens of what
it pays and the credit of what it waits for.
-/
module

public import proofs.«01_k».proof.Proof.KernelIdealLaunch

@[expose] public section

noncomputable section

namespace Cert.KernelIdeal.Run

open Cert.KernelIdeal Cert.KernelIdeal.Gen Cert.Rows

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ) (ρ : Dev nD → PrngReg)

/-- The barrier semaphore is the one outside the kernel's scope. -/
theorem unscopedSems0_eq (c : Dev nD) : (unscopedSems0 c : sProp 𝕄) = semVal (barCell c) 0 := by
  unfold unscopedSems0; rw [bigSep_eq_bigSepL_of_eq [SemLoc.reg bar] (by decide) (by decide)]; rfl

theorem ownSems0_eq (c : Dev nD) : (Pipeline.ownSems0 (Ix := ℕ) (Name := ℕ) (U := UU) (Lvl := ℕ) (Val := Elt F) (τ := τ) osem c : sProp 𝕄) = all8 (Z c) :=
  all8_eq (Z c)

theorem ownSemFacts : Pipeline.OwnSemFacts cfg0.spec osem where
  isScoped := by decide
  inj := osem_inj
  disj := by decide

/-- A cell of the schedule at zero becomes a known one. -/
theorem alloc_bar (c : Dev nD) : iprop(semVal (barCell c) 0 ∗ roundState ER (Rd m ρ) (barCell c) 0 ∗ reached ER (barCell c) 0)
    ⊢ (|={Set.univ}=> knownB m ρ c : sProp 𝕄) := by
  unfold knownB
  iintro ⟨Hv, Hs, Hr⟩
  imod (show iprop(semVal (barCell c) 0 ∗ roundState ER (Rd m ρ) (barCell c) 0) ⊢ (|={Set.univ}=> (∃ κ : ℕ, cellInv ER (Rd m ρ) κ (barCell c)) : sProp 𝕄) from
    (Rounds.body_intro ER (Rd m ρ) (barCell c)).trans inv_alloc) $$ [Hv Hs] with HI
  · isplitl [Hv] <;> iassumption
  imodintro
  isplitl [HI] <;> iassumption

theorem alloc_d (c : Dev nD) (k v : ℕ) : iprop(Z c k v ∗ roundState ER (Rd m ρ) (dcell c k v) 0 ∗ reached ER (dcell c k v) 0)
    ⊢ (|={Set.univ}=> knownD m ρ c k v : sProp 𝕄) := by
  unfold knownD Z
  iintro ⟨Hv, Hs, Hr⟩
  imod (show iprop(semVal (dcell c k v) 0 ∗ roundState ER (Rd m ρ) (dcell c k v) 0) ⊢ (|={Set.univ}=> (∃ κ : ℕ, cellInv ER (Rd m ρ) κ (dcell c k v)) : sProp 𝕄) from
    (Rounds.body_intro ER (Rd m ρ) (dcell c k v)).trans inv_alloc) $$ [Hv Hs] with HI
  · isplitl [Hv] <;> iassumption
  imodintro
  isplitl [HI] <;> iassumption

theorem alloc_x (c : Dev nD) : iprop(all8 (Z c) ∗ (all8 fun k v => roundState ER (Rd m ρ) (dcell c k v) 0) ∗ (all8 fun k v => (reached ER (dcell c k v) 0 : sProp 𝕄)))
    ⊢ (|={Set.univ}=> bigSep Finset.univ fun x : Fin 8 × Fin 7 => knownX m ρ (c, x) : sProp 𝕄) := by
  rw [← all8_eq (Z c), ← all8_eq fun k v => roundState ER (Rd m ρ) (dcell c k v) 0, ← all8_eq fun k v => (reached ER (dcell c k v) 0 : sProp 𝕄),
    ← bigSep_sep', ← bigSep_sep']
  exact (bigSep_mono fun x _ => alloc_d m ρ c x.1.val x.2.val).trans (bigSep_fupd _ _)

/-- What stays with a device whatever the others do. -/
def kept (c : Dev nD) : sProp 𝕄 := iprop((atPos ER (barCell c) 0 ∅ 0 ∗ all8 (pos c)) ∗ toks c)

theorem core_alloc (c : Dev nD) :
    iprop(Pipeline.ownSems0 (Ix := ℕ) (Name := ℕ) (U := UU) (Lvl := ℕ) (Val := Elt F) (τ := τ) osem c ∗ unscopedSems0 c ∗ G m ρ c)
      ⊢ (|={Set.univ}=> iprop((knownB m ρ c ∗ bigSep Finset.univ fun x : Fin 8 × Fin 7 => knownX m ρ (c, x)) ∗ kept c) : sProp 𝕄) := by
  rw [ownSems0_eq, unscopedSems0_eq]
  unfold G kept
  iintro ⟨HZ, HB, ⟨HsB, HsX⟩, ⟨HrB, HrX⟩, Hat, Htok⟩
  imod (alloc_bar m ρ c) $$ [HB HsB HrB] with KB
  · isplitl [HB]; · iexact HB
    isplitl [HsB] <;> iassumption
  imod (alloc_x m ρ c) $$ [HZ HsX HrX] with KX
  · isplitl [HZ]; · iexact HZ
    isplitl [HsX] <;> iassumption
  imodintro
  isplitl [KB KX]
  · isplitl [KB] <;> iassumption
  isplitl [Hat] <;> iassumption

/-- The tokens of the duties a device pays. -/
def pays (c : Dev nD) : sProp 𝕄 :=
  iprop((all7 fun t => btok (pl c (t + 1)) (6 - t)) ∗ all7 (tok c 0) ∗ (all7 fun t => tok (pl c (t + 1)) 1 (6 - t)) ∗ all7 (tok c 2)
    ∗ (all7 fun t => tok (pl c (t + 1)) 3 (6 - t)) ∗ all7 (tok c 4) ∗ (all7 fun t => tok (pl c (t + 1)) 5 (6 - t)) ∗ all7 (tok c 6)
    ∗ all7 fun t => tok (pl c (t + 1)) 7 (6 - t))

/-- Every device's own tokens are every device's tokens to pay. -/
theorem toks_around : (bigSep Finset.univ fun c : Dev nD => (toks c : sProp 𝕄)) = bigSep Finset.univ fun c : Dev nD => pays c := by
  unfold toks pays
  simp only [bigSep_sep']
  rw [around fun c => btok c, around fun c => tok c 1, around fun c => tok c 3, around fun c => tok c 5, around fun c => tok c 7]

/-- What a device starts with. -/
def linear (c : Dev nD) : sProp 𝕄 := iprop((atPos ER (barCell c) 0 ∅ 0 ∗ all8 (pos c)) ∗ pays c)
def G' (c : Dev nD) : sProp 𝕄 := iprop(records m ρ ∗ linear c)

theorem with_persistent {R : sProp 𝕄} [BI.Persistent R] {Φ : Dev nD → sProp (MT nD τ sig ℕ (Elt F) ℕ UU ℕ)} :
    iprop(R ∗ bigSep Finset.univ Φ) ⊢ bigSep Finset.univ fun c => iprop(R ∗ Φ c) := by
  rw [bigSep_sep']; exact sep_mono_left (BI.bigSep_of_persistent Finset.univ R)

theorem regroup :
    (bigSep Finset.univ fun c : Dev nD => iprop((knownB m ρ c ∗ bigSep Finset.univ fun x : Fin 8 × Fin 7 => knownX m ρ (c, x)) ∗ kept c) : sProp 𝕄)
      ⊢ bigSep Finset.univ (G' m ρ) := by
  unfold kept
  rw [bigSep_sep', bigSep_sep', bigSep_sep' Finset.univ (fun c : Dev nD => iprop(atPos ER (barCell c) 0 ∅ 0 ∗ all8 (pos c))) toks, toks_around,
    ← bigSep_univ_prod (knownX m ρ)]
  iintro ⟨HK, HL⟩
  iapply (with_persistent (R := records m ρ) (Φ := linear))
  isplitl [HK]; · unfold records; iexact HK
  iapply (Entails.of_eq (bigSep_sep' Finset.univ (fun c : Dev nD => iprop(atPos ER (barCell c) 0 ∅ 0 ∗ all8 (pos c))) pays).symm)
  iexact HL

/-- The one update at launch. -/
theorem glob : (bigSep Finset.univ fun c => iprop(Pipeline.ownSems0 (Ix := ℕ) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The launch credit -/

/-- What a device owes, distance by distance. -/
theorem owed_all (c : Dev nD) : owed c 0 = ∑ t : Fin 7, (due c t.val + (due c (7 + 2 * t.val) + (due c (8 + 2 * t.val) + (due c (21 + 2 * t.val) + due c (22 + 2 * t.val))))) := by
  unfold owed
  rw [Fin.sum_univ_seven, Finset.sum_Ico_eq_sum_range]
  simp only [Finset.sum_range_succ, Finset.sum_range_zero]
  show _ = due c 0 + (due c 7 + (due c 8 + (due c 21 + due c 22))) + (due c 1 + (due c 9 + (due c 10 + (due c 23 + due c 24))))
    + (due c 2 + (due c 11 + (due c 12 + (due c 25 + due c 26)))) + (due c 3 + (due c 13 + (due c 14 + (due c 27 + due c 28))))
    + (due c 4 + (due c 15 + (due c 16 + (due c 29 + due c 30)))) + (due c 5 + (due c 17 + (due c 18 + (due c 31 + due c 32))))
    + (due c 6 + (due c 19 + (due c 20 + (due c 33 + due c 34))))
  abel

/-- The credit of one distance's dues on one semaphore. -/
theorem cred_one (t : ℕ) (sm : SemLoc sig) (ι n : ℕ) (D : Dev nD → CellTallies nD τ sig ℕ)
    (h : ∀ d, D d = tallyAt ((pl d (t + 1) : Thread nD τ), sm) ι n) (c : Dev nD) :
    (Pipeline.launchCred D c : sProp 𝕄) ⊢ cred (tallyAt ((c : Thread nD τ), sm) ι n) := by
  rw [show D = fun d => tallyAt ((pl d (t + 1) : Thread nD τ), sm) ι n from funext h]
  exact Pipeline.launchCred_tallyAt sm (turn t) (turn t).symm (turn t).apply_symm_apply (turn t).symm_apply_apply ι n c

theorem cred_bar (c : Dev nD) : (all7 fun _ => cred (tallyAt (barCell c) 1 1) : sProp 𝕄) ⊢ cred (tallyAt (barCell c) 1 7) := by
  unfold all7
  rw [← Pipeline.cred_finsetSum Finset.univ fun _ : Fin 7 => tallyAt (barCell c) 1 1, Fin.sum_univ_seven]
  simp only [tallyAt_add]
  exact .rfl

/-- The credit a device's waits spend. -/
def creds (c : Dev nD) : sProp 𝕄 :=
  iprop(cred (tallyAt (barCell c) 1 7) ∗ (all7 fun v => cred (tallyAt (dcell c 1 v) 2 N)) ∗ (all7 fun v => cred (tallyAt (dcell c 3 v) 2 N))
    ∗ (all7 fun v => cred (tallyAt (dcell c 5 v) 3 N)) ∗ all7 fun v => cred (tallyAt (dcell c 7 v) 3 N))

theorem all7_mono {f g : ℕ → sProp (MT nD τ sig ℕ (Elt F) ℕ UU ℕ)} (h : ∀ v, v < 7 → f v ⊢ g v) : all7 f ⊢ all7 g :=
  bigSep_mono fun v _ => h v.val v.isLt

theorem launch_creds (c : Dev nD) : (Pipeline.launchCred (fun d => owed d 0) c : sProp 𝕄) ⊢ creds c := by
  rw [show (fun d : Dev nD => owed d 0) = fun d => ∑ t : Fin 7, (due d t.val + (due d (7 + 2 * t.val) + (due d (8 + 2 * t.val) + (due d (21 + 2 * t.val) + due d (22 + 2 * t.val)))))
      from funext owed_all, Pipeline.launchCred_sum]
  simp only [Pipeline.launchCred_add, bigSep_sep']
  unfold creds
  refine sep_mono ?_ (sep_mono ?_ (sep_mono ?_ (sep_mono ?_ ?_)))
  · exact (bigSep_mono fun (t : Fin 7) _ => cred_one t.val (.reg bar) 1 1 _ (fun d => by unfold due; exact if_pos t.isLt) c).trans (cred_bar c)
  · exact (bigSep_mono fun (t : Fin 7) _ => cred_one t.val (.dma (ds 1 (6 - t.val))) 2 N _ (fun d => due_d d t.isLt) c).trans
      (Entails.of_eq (all7_rev fun v => cred (tallyAt (dcell c 1 v) 2 N)))
  · exact (bigSep_mono fun (t : Fin 7) _ => cred_one t.val (.dma (ds 3 (6 - t.val))) 2 N _ (fun d => due_d' d t.isLt) c).trans
      (Entails.of_eq (all7_rev fun v => cred (tallyAt (dcell c 3 v) 2 N)))
  · exact (bigSep_mono fun (t : Fin 7) _ => cred_one t.val (.dma (ds 5 (6 - t.val))) 3 N _ (fun d => due_r d t.isLt) c).trans
      (Entails.of_eq (all7_rev fun v => cred (tallyAt (dcell c 5 v) 3 N)))
  · exact (bigSep_mono fun (t : Fin 7) _ => cred_one t.val (.dma (ds 7 (6 - t.val))) 3 N _ (fun d => due_r' d t.isLt) c).trans
      (Entails.of_eq (all7_rev fun v => cred (tallyAt (dcell c 7 v) 3 N)))

end Cert.KernelIdeal.Run

end
-- ==== Proof.KernelIdealRun.lean ====
/-
# The run

The kernel as the one region of the program: every execution ends, with the result array at the computed contents, the
arguments as they were and every semaphore at zero.
-/
module

public import proofs.«01_k».proof.Proof.KernelIdealStart
public import proofs.«01_k».proof.Proof.Gen.KernelIdeal.Points
public import Idealize.ShloMosaic.Lib.Pipeline.CollectiveSegs

@[expose] public section

noncomputable section

namespace Cert.KernelIdeal.Run

open Cert.KernelIdeal Cert.KernelIdeal.Gen Cert.Rows

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ) (ρ : Dev nD → PrngReg)

/-- The scratch buffers at some contents. -/
def scratch (c : Dev nD) : sProp 𝕄 :=
  iprop(some' bPall c 0 768 ∗ some' bDs c 0 768 ∗ some' bX0 c 0 384 ∗ some' bX1 c 0 384 ∗ some' bY0 c 0 384 ∗ some' bY1 c 0 384
    ∗ some' bYr c 0 768 ∗ (∃ f, full bW1 c f) ∗ (∃ f, full bW2 c f))

def start (c : Dev nD) : sProp 𝕄 := iprop(known m ρ ∗ linear c ∗ creds c)
def Φ₀ (c : Dev nD) : sProp 𝕄 := iprop(start m ρ c ∗ scratch c)
def Φ₁ (c : Dev nD) : sProp 𝕄 := iprop(semVal (barCell c) 0 ∗ all8 (Z c) ∗ scratch c)

/-- The pipeline's data: the arguments staged and given back, the result array at the computed contents. -/
def dats (_ : Fin 1) (c : Dev nD) : Dat τ (Elt F) ℕ ℕ UU ℕ cfg0 c where
  A w := (s₀ m ρ).mem ((cfg0.win w).arr.view.loc (c : Thread nD τ))
  after w _ := match w with
    | ⟨0, _⟩ => XS m ρ c
    | ⟨1, _⟩ => AS m ρ c
    | ⟨2, _⟩ => W1S m ρ c
    | ⟨3, _⟩ => W2S m ρ c
    | ⟨4, _⟩ => OUT m ρ c
  Φ t := match t with
    | ⟨0, _⟩ => Φ₀ m ρ c
    | ⟨_ + 1, _⟩ => Φ₁ c
  q _ := fullShare
  owed t := match t with
    | ⟨0, _⟩ => owed c 0
    | ⟨_ + 1, _⟩ => owed c 35

theorem scopedRest_eq (c : Dev nD) : (Pipeline.scopedRest (Ix := ℕ) (Name := ℕ) (U := UU) (Lvl := ℕ) (Val := Elt F) spec0 c : sProp 𝕄) = scratch c := by
  unfold scratch some'
  rw [scopedRest0_eq, some_all (View.set_whole _), some_all (View.set_whole _), some_all (View.set_whole _), some_all (View.set_whole _),
    some_all (View.set_whole _), some_all (View.set_whole _), some_all (View.set_whole _)]
  rfl

theorem owns_whole_eq (c : Dev nD) (b : Ref sig .tc) (X : b.ty.Contents (Elt F)) :
    (owns (Ix := ℕ) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staging buffer at the contents `X`. -/
def stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m ρ c ∗ (dats m ρ 0 c).owesAt 0 t0_0.castSucc
    ∗ (∃ d, stg c cc0_stg0_0 ((dats m ρ 0 c).before (0 : Fin 5) t0_0 d))
    ∗ (∃ d, stg c cc0_stg1_0 ((dats m ρ 0 c).before (1 : Fin 5) t0_0 d))
    ∗ (∃ d, stg c cc0_stg2_0 ((dats m ρ 0 c).before (2 : Fin 5) t0_0 d))
    ∗ (∃ d, stg c cc0_stg3_0 ((dats m ρ 0 c).before (3 : Fin 5) t0_0 d))
    ∗ (∃ d, stg c cc0_stg4_0 ((dats m ρ 0 c).before (4 : Fin 5) t0_0 d)))

def bodyPost (c : Dev nD) : sProp 𝕄 :=
  iprop(Φ₁ c ∗ (dats m ρ 0 c).owesAt 0 t0_0.succ ∗ stg c cc0_stg0_0 (XS m ρ c) ∗ stg c cc0_stg1_0 (AS m ρ c)
    ∗ stg c cc0_stg2_0 (W1S m ρ c) ∗ stg c cc0_stg3_0 (W2S m ρ c) ∗ stg c cc0_stg4_0 (OUT m ρ c))

/-- What the transfers of a stream need, and what the waits for one need, array by array. -/
theorem out_eq (c : Dev nD) (i : ℕ) :
    iprop(all7 (pos c (2 * i)) ∗ all7 (tok c (2 * i)) ∗ all7 fun t => tok (pl c (t + 1)) (2 * i + 1) (6 - t)) ⊢ (sep7 (Out c i) : sProp 𝕄) := by
  rw [← all7_eq]
  unfold Out
  rw [all7_sep, all7_sep]
  iintro ⟨A, B, C⟩
  isplitl [B]; · iexact B
  isplitl [A]; · iexact A
  iexact C

theorem wt_eq (c : Dev nD) (k ι : ℕ) : iprop(all7 (pos c k) ∗ all7 fun v => cred (tallyAt (dcell c k v) ι N)) ⊢ (sep7 (Wt c k ι) : sProp 𝕄) := by
  rw [← all7_eq]
  unfold Wt
  rw [all7_sep]

theorem stg_intro (c : Dev nD) (b : Ref sig .tc) (X : b.ty.Contents (Elt F)) : (((c : Thread nD τ).loc b ↦{fullShare} X : sProp 𝕄)) ⊢ stg c b X := by
  unfold stg
  iintro H; iexists X
  isplitr; · ipureintro; rfl
  iexact H

set_option maxRecDepth 4000 in
/-- The body from what the pipeline hands it to what it takes back. -/
theorem sound_body (c : Dev nD) : bodyPre m ρ c ⊢ run (fun _ => bodyPost m ρ c) c (call (cc0_body (F := F))) := by
  unfold bodyPre Φ₀ start scratch linear stg pays creds
  iintro ⟨⟨⟨#Hk, ⟨⟨Hat, P0, P1, P2, P3, P4, P5, P6, P7⟩, TB, T0, T1, T2, T3, T4, T5, T6, T7⟩, CB, C1, C3, C5, C7⟩, HP, HD, X0, X1, Y0, Y1, R, HA, HB⟩, Ho,
    ⟨%d0, %g0, %hg0, S0⟩, ⟨%d1, %g1, %hg1, S1⟩, ⟨%d2, %g2, %hg2, S2⟩, ⟨%d3, %g3, %hg3, S3⟩, ⟨%d4, %g4, %hg4, S4⟩⟩
  have h0 : g0 = XS m ρ c := by rw [hg0]; unfold Dat.before; rw [if_pos (fetch0_0 t0_0)]; rfl
  have h1 : g1 = AS m ρ c := by rw [hg1]; unfold Dat.before; rw [if_pos (fetch0_1 t0_0)]; rfl
  have h2 : g2 = W1S m ρ c := by rw [hg2]; unfold Dat.before; rw [if_pos (fetch0_2 t0_0)]; rfl
  have h3 : g3 = W2S m ρ c := by rw [hg3]; unfold Dat.before; rw [if_pos (fetch0_3 t0_0)]; rfl
  subst h0 h1 h2 h3
  unfold Dat.owesAt Pipeline.owesWithin
  icases Ho with ⟨%W, %hW, HO⟩
  iapply (body_run m ρ c) $$ Hk [HO] Hat CB [TB] [P0 T0 T1] [P2 T2 T3] [P4 T4 T5] [P6 T6 T7] [P1 C1] [P3 C3] [P5 C5] [P7 C7] HP HD X0 X1 Y0 Y1 R HA HB [S0] [S1] [S2] [S3] [S4]
  · unfold own; iexists W; iexact HO
  · iapply (Entails.of_eq (all7_eq _)); iexact TB
  · iapply ((out_eq c 0)); isplitl [P0]; · iexact P0
    isplitl [T0]; · iexact T0
    iexact T1
  · iapply ((out_eq c 1)); isplitl [P2]; · iexact P2
    isplitl [T2]; · iexact T2
    iexact T3
  · iapply ((out_eq c 2)); isplitl [P4]; · iexact P4
    isplitl [T4]; · iexact T4
    iexact T5
  · iapply ((out_eq c 3)); isplitl [P6]; · iexact P6
    isplitl [T6]; · iexact T6
    iexact T7
  · iapply ((wt_eq c 1 2)); isplitl [P1]; · iexact P1
    iexact C1
  · iapply ((wt_eq c 3 2)); isplitl [P3]; · iexact P3
    iexact C3
  · iapply ((wt_eq c 5 3)); isplitl [P5]; · iexact P5
    iexact C5
  · iapply ((wt_eq c 7 3)); isplitl [P7]; · iexact P7
    iexact C7
  · unfold full; iexact S0
  · unfold full; iexact S1
  · unfold full; iexact S2
  · unfold full; iexact S3
  · iexists g4; unfold full; iexact S4
  iintro HO HzB Z0 Z1 Z2 Z3 Z4 Z5 Z6 Z7 HP HD X0 X1 Y0 Y1 R HA HB S0 S1 S2 S3 S4
  unfold run
  rw [wp_ret]
  imodintro
  unfold bodyPost Φ₁ Dat.owesAt Pipeline.owesWithin scratch
  isplitl [HzB Z0 Z1 Z2 Z3 Z4 Z5 Z6 Z7 HP HD X0 X1 Y0 Y1 R HA HB]
  · isplitl [HzB]; · iexact HzB
    isplitl [Z0 Z1 Z2 Z3 Z4 Z5 Z6 Z7]
    · unfold all8; simp only [all7_eq]
      isplitl [Z0]; · iexact Z0
      isplitl [Z1]; · iexact Z1
      isplitl [Z2]; · iexact Z2
      isplitl [Z3]; · iexact Z3
      isplitl [Z4]; · iexact Z4
      isplitl [Z5]; · iexact Z5
      isplitl [Z6]; · iexact Z6
      iexact Z7
    isplitl [HP]; · iexact HP
    isplitl [HD]; · iexact HD
    isplitl [X0]; · iexact X0
    isplitl [X1]; · iexact X1
    isplitl [Y0]; · iexact Y0
    isplitl [Y1]; · iexact Y1
    isplitl [R]; · iexact R
    isplitl [HA]; · iexact HA
    iexact HB
  isplitl [HO]
  · unfold own
    icases HO with ⟨%W', HO⟩
    iexists W'
    isplitr; · ipureintro; exact fun _ _ => Or.inl trivial
    iexact HO
  isplitl [S0]; · iapply (stg_intro c cc0_stg0_0 (XS m ρ c)); unfold full; iexact S0
  isplitl [S1]; · iapply (stg_intro c cc0_stg1_0 (AS m ρ c)); unfold full; iexact S1
  isplitl [S2]; · iapply (stg_intro c cc0_stg2_0 (W1S m ρ c)); unfold full; iexact S2
  isplitl [S3]; · iapply (stg_intro c cc0_stg3_0 (W2S m ρ c)); unfold full; iexact S3
  iapply (stg_intro c cc0_stg4_0 (OUT m ρ c)); unfold full; iexact S4

set_option maxRecDepth 40000 in
/-- The pipeline's obligation on the body. -/
theorem body_obligation (c : Dev nD) : BodyObligation (dats (F := F) m ρ 0 c) (defs₀ (F := F)) 𝒱₀ 0 Set.univ := fun t => by
  rw [fin_N0 t]
  rw [bigSep_W0, bigSep_W0]
  simp only [owns_whole_eq]
  show bodyPre m ρ c ⊢ run (fun _ => bodyPost m ρ c) c (call (cc0_body (F := F)))
  exact sound_body m ρ c

/-! ## The region -/

theorem start_intro (c : Dev nD) :
    iprop(Pipeline.unscopedRestP Pipeline.Prefetch.none cfg0.spec c (fun b => m ((c : Thread nD τ).loc b)) ∗ levAts (SiteBlocks.L 4) SiteBlocks.lv
        ∗ Pipeline.launchCred (fun d => owed d 0) c ∗ prngReg c (ρ c) ∗ G' m ρ c)
      ⊢ (|={Set.univ}=> iprop(start m ρ c ∗ emp) : sProp 𝕄) := by
  unfold start G' known
  iintro ⟨-, Hlev, Hcr, -, HR, HL⟩
  ihave Hc := (launch_creds c) $$ Hcr
  imodintro
  isplitl
  · isplitl [HR Hlev]
    · isplitl [HR]; · iexact HR
      iexact Hlev
    isplitl [HL]; · iexact HL
    iexact Hc
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest_eq]
  unfold Φ₀
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest_eq, ownSems0_eq, unscopedSems0_eq]
  exact .rfl

theorem waits (c : Dev nD) : (levAts (SiteBlocks.L 4) SiteBlocks.lv : sProp 𝕄) ⊢ Pipeline.cellsWaits cfgs (dats m ρ) 0 0 c :=
  Pipeline.cellsWaits_intro cfgs (dats m ρ) 0 0 c fun w s t => by
    rcases t with ⟨_ | _, ht⟩
    · exact mayWait c _ 0 0 (by decide)
    · exact mayWait c _ 0 35 (by decide)

theorem share_eq (c : Dev nD) (w : Fin cfg0.W) : (dats m ρ 0 c).share w = fullShare := by unfold Dat.share; split <;> rfl

/-- The arrays after the run. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- From any memory with every semaphore at zero, every execution of the program on the eight devices ends, with each
    array at `finalA` and every semaphore at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) 0 cellOf_inj (0 : Fin 1)
    winFacts0.to₀ ownSemFacts (Pipeline.PreFacts.none _) EP defs₀ 𝒱₀ m ρ main
    (hmain := fun _ => rfl)
    (hbody := fun c => (body_obligation m ρ c).loose) (hne := block_pos0) (harr := arr_whole0) (hstage := stage_whole0) (hshare := share_eq m ρ)
    (hdistinct := winFacts0.arr_inj)
    (O₀ := fun d => owed d 0) (howed₀ := fun _ => rfl) (howedN := fun c => owed_end c)
    (L := SiteBlocks.L 4) (lv := SiteBlocks.lv) (hL := SiteBlocks.hL 4) (hwaits := waits m ρ)
    (G := G m ρ) (G' := G' m ρ) (u₀ := u₀)
    (hu₀ := by
      unfold u₀
      iintro Hu
      ihave H := (ownU_pair _ _) $$ Hu
      icases H with ⟨HP, HX⟩
      imod (fund_all m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.KernelIdeal.Run

end
-- ==== Proof.KernelIdealEnd.lean ====
/- Hand-written: what the final memory holds — the argument arrays as at the start, the result array what the last product left. -/
module

public import proofs.«01_k».proof.Proof.KernelIdealRun
public import Idealize.ShloMosaic.Lib.Pipeline.ValueKit.Geometry

@[expose] public section

noncomputable section

namespace Cert.KernelIdeal.Run

open Idealize.ShloMosaic Idealize.ShloMosaic.TcCoe Idealize.SL.Sem
open Cert.KernelIdeal Cert.KernelIdeal.Gen

variable {F : FTy → Type} [FloatOps F]
variable (m : (ℓ : Loc nD τ sig) → Buf (Elt F) ℓ) (ρ : Dev nD → PrngReg)

/-- The run ends with every argument array as it began. -/
theorem args_kept : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => ⟨(h.1 c 0).trans ((dats (F := F) m ρ 0 c).arrAt_in 0 rfl _),
      (h.1 c 1).trans ((dats (F := F) m ρ 0 c).arrAt_in 1 rfl _),
      (h.1 c 2).trans ((dats (F := F) m ρ 0 c).arrAt_in 2 rfl _),
      (h.1 c 3).trans ((dats (F := F) m ρ 0 c).arrAt_in 3 rfl _)⟩, h.2⟩) (run_main m ρ)

/-- The one point of the grid writes the whole result array back. -/
theorem whole4 : win0_4.WholeAt (0 : Fin 1) :=
  ⟨by decide +kernel, fun t _ => Subsingleton.elim (α := Fin 1) t 0, fun a => by fin_cases a <;> exact ⟨rfl, rfl⟩⟩

/-- The result array ends holding what the body stored in its staging buffer. -/
theorem final_out (c : Dev nD) : finalA m ρ c 4 = OUT m ρ c := by
  refine (dats (F := F) m ρ 0 c).arrAt_eq_of_after_last 4 (0 : Fin (1 : ℕ)) whole4 _ ?_
  intro j
  rfl

end Cert.KernelIdeal.Run

end
-- ==== Proof.IdealWords.lean ====
/- Hand-written: the index words of the dispatch matrix. Which expert a block of rows is for, and which slot of it a row is. -/
module

public import proofs.«01_k».proof.Proof.KernelIdealCells
public import Idealize.ShloMosaic.Lib.MatmulPlain
public import Idealize.ShloMosaic.Lib.ValueIdx
public import Idealize.ShloMosaic.Lib.Pipeline.Value

@[expose] public section

noncomputable section

namespace Cert.KernelIdeal.Run

open Idealize.ShloMosaic Idealize.ShloMosaic.TcCoe Idealize.SL.Sem Idealize.ShloMosaic.ValueIdx
open Cert.KernelIdeal Cert.KernelIdeal.Gen Cert.Rows

/-- The quotient of words rounded down, as the kernel computes it. -/
def floorDiv (x y : BitVec 32) : BitVec 32 :=
  Scalar.select
    (Scalar.andi
      (Scalar.cmpi .ne (Scalar.subi (Scalar.extui (Scalar.cmpi .sgt x 0#32)) (Scalar.extui (Scalar.cmpi .slt x 0#32)))
        (Scalar.subi (Scalar.extui (Scalar.cmpi .sgt y 0#32)) (Scalar.extui (Scalar.cmpi .slt y 0#32))))
      (Scalar.cmpi .ne (IntOp.remsi .vector x y) 0#32))
    (Scalar.subi (IntOp.divsi .vector x y) 1#32) (IntOp.divsi .vector x y)

/-- The expert that block `q` of the rows is for, on the device with number `d`. -/
def expertWord (d q : BitVec 32) : BitVec 32 :=
  Scalar.addi (Scalar.muli 2#32 (IntOp.remsi .vector (Scalar.addi (floorDiv q 2#32) d) 8#32)) (IntOp.remsi .vector q 2#32)

/-- The number of slots, as the kernel guards it against zero. -/
abbrev slotsWord : BitVec 32 := Scalar.select (Scalar.cmpi .eq 48#32 0#32) 1#32 48#32

/-- One more than the slot of row `r`. -/
def slotWord (r : BitVec 32) : BitVec 32 :=
  Scalar.addi
    (Scalar.select
      (Scalar.andi (Scalar.xori (Scalar.cmpi .slt (IntOp.remsi .vector r slotsWord) 0#32) (Scalar.cmpi .slt slotsWord 0#32))
        (Scalar.cmpi .ne (IntOp.remsi .vector r slotsWord) 0#32))
      (Scalar.addi (IntOp.remsi .vector r slotsWord) slotsWord) (IntOp.remsi .vector r slotsWord)) 1#32

/-- Blocks have 48 rows. -/
theorem floorDiv_block : ∀ r : Fin 768, floorDiv (BitVec.ofNat 32 r.val) 48#32 = BitVec.ofNat 32 (r.val / 48) := by decide +kernel

/-- Block `q` is for local expert `q % 2` of the device `q / 2` steps ahead. -/
theorem expertWord_eq : ∀ (c : Fin 8) (q : Fin 16),
    expertWord (BitVec.ofNat 32 c.val) (BitVec.ofNat 32 q.val) = BitVec.ofNat 32 (2 * ((q.val / 2 + c.val) % 8) + q.val % 2) := by decide +kernel

/-- Row `r` is slot `r % 48` of its block. -/
theorem slotWord_eq : ∀ r : Fin 384, slotWord (BitVec.ofNat 32 r.val) = BitVec.ofNat 32 (r.val % 48 + 1) := by decide +kernel

/-- A device's word is its number. -/
theorem idw_eq : ∀ c : Dev nD, idw c = BitVec.ofNat 32 c.val := by decide +kernel

variable (m : (ℓ : Loc nD τ sig) → Buf (Elt Ideal) ℓ) (ρ : Dev nD → PrngReg) (c : Dev nD)

/-- A comparison of words as a number. -/
def hot (k : ℕ) (w : BitVec 32) : EReal := (((Scalar.extui (Scalar.cmpi .eq (BitVec.ofNat 32 k) w)).toInt : ℝ) : EReal)

/-- A comparison of a number with a word as a number. -/
def bit (a : EReal) (s : BitVec 32) : EReal := (((Scalar.extui (Ideal.cmp .oeq a ((s.toInt : ℝ) : EReal))).toInt : ℝ) : EReal)

/-- A counter along an axis, as a function of the index. -/
theorem iota_fun (s : Shape) (d : Fin s.rank) (h : s.Iotas .tc 32 [d]) : iota .tc s 32 [d] h = fun i => BitVec.ofNat 32 (i d).val :=
  funext fun i => iota_single_apply .tc s 32 d h i

/-- The kernel's placement matrix at a row and a token: the row's expert picked out of the rank table, compared with the row's slot. -/
theorem place {R : ℕ} (W : IVec ⟨2, ![R, 16]⟩ 32) (G : IVec ⟨2, ![R, 512]⟩ 32) (code : FVec Ideal ⟨2, ![16, 512]⟩ .f32)
    (hi : (⟨2, ![R, 16]⟩ : Shape).Iotas .tc 32 [1]) (h1 : (1 : ℕ) < 32) (h2 : FTy.bits .bf16 < FTy.bits .f32)
    (r : Fin R) (t : Fin 512) (E s : BitVec 32) (hE : ∀ k, W (ix2 r k) = E) (hs : G (ix2 r t) = s) :
    (truncf .bf16 (sitofp .f32 (extui 32 (cmpf .oeq (matmul (DotDims.plain R 16 512) none
      (sitofp .f32 (extui 32 (cmpi .eq (iota .tc ⟨2, ![R, 16]⟩ 32 [1] hi) W) h1) : FVec Ideal ⟨2, ![R, 16]⟩ .f32) code
      (constant ⟨2, ![R, 512]⟩ .f32 0x00000000#32)) (sitofp .f32 G)) h1) : FVec Ideal ⟨2, ![R, 512]⟩ .f32) h2) (ix2 r t)
    = bit (∑ k : Fin 16, hot k.val E * code (ix2 k t)) s := by
  subst hs
  rw [iota_fun]
  have hm := Ideal.matmul_plain_apply none (sitofp .f32 (extui 32 (cmpi .eq (fun i : Shape.Idx ⟨2, ![R, 16]⟩ => BitVec.ofNat 32 (i 1).val) W) h1) : FVec Ideal ⟨2, ![R, 16]⟩ .f32)
    code (constant ⟨2, ![R, 512]⟩ .f32 0x00000000#32) r t
  refine congrArg (fun a => bit a (G (ix2 r t))) (hm.trans ?_)
  refine (congrArg (· + _) Ideal.ofBits_zero_f32).trans ((zero_add _).trans (Finset.sum_congr rfl fun k _ => ?_))
  rw [← hE k]
  rfl

/-- The expert that row `r` of the dispatch matrix is for, on device `d`. -/
def ex (d r : ℕ) : ℕ := 2 * ((r / 48 / 2 + d) % 8) + r / 48 % 2

/-- The entry of the dispatch matrix for expert `e`, slot `s` and token `t`. -/
def entry (e s : ℕ) (t : Fin 512) : EReal :=
  bit (∑ k : Fin 16, hot k.val (BitVec.ofNat 32 e) * CODE m ρ c (ix2 k t)) (BitVec.ofNat 32 (s + 1))

/-- The expert's word of a row that lies `lo` below row `r`. -/
theorem expertWord_row (r lo : ℕ) (h : lo + r < 768) :
    expertWord (idw c) (floorDiv (Scalar.addi (BitVec.ofNat 32 r) (BitVec.ofNat 32 lo)) 48#32) = BitVec.ofNat 32 (ex c.val (lo + r)) := by
  have e : Scalar.addi (BitVec.ofNat 32 r) (BitVec.ofNat 32 lo) = BitVec.ofNat 32 (lo + r) :=
    (BitVec.ofNat_add r lo).symm.trans (congrArg _ (Nat.add_comm r lo))
  rw [e, idw_eq, floorDiv_block ⟨lo + r, h⟩]
  exact expertWord_eq c ⟨(lo + r) / 48, by omega⟩

/-- The piece of rows 96 to 479. -/
theorem pieceA (r : Fin 384) (t : Fin 512) : PA m ρ c (ix2 r t) = entry m ρ c (ex c.val (96 + r.val)) (r.val % 48) t := by
  unfold entry
  rw [← expertWord_row c r.val 96 (by omega), ← slotWord_eq r]
  unfold PA k0_pay10 k0_pay8 k0_pay7 k0_pay9 k0_pay6 k0_pay5 k0_pay4 k0_pay3
  refine (congrFun (shapeCast_self _ _) _).trans (place _ _ _ _ _ _ r t _ _ (fun k => ?_) ?_)
  · rw [iota_fun]; rfl
  · rw [iota_fun]; rfl

/-- The piece of rows 480 to 767. -/
theorem pieceB (r : Fin 288) (t : Fin 512) : PB m ρ c (ix2 r t) = entry m ρ c (ex c.val (480 + r.val)) (r.val % 48) t := by
  unfold entry
  rw [← expertWord_row c r.val 480 (by omega), ← slotWord_eq ⟨r.val, by omega⟩]
  unfold PB k0_pay20 k0_pay19 k0_pay18 k0_pay17 k0_pay16
  refine (congrFun (shapeCast_self _ _) _).trans (place _ _ _ _ _ _ r t _ _ (fun k => ?_) ?_)
  · rw [iota_fun]; rfl
  · rw [iota_fun]; rfl

/-- The piece of rows 0 to 95. -/
theorem pieceC (r : Fin 96) (t : Fin 512) : PC m ρ c (ix2 r t) = entry m ρ c (ex c.val (0 + r.val)) (r.val % 48) t := by
  unfold entry
  rw [← expertWord_row c r.val 0 (by omega), ← slotWord_eq ⟨r.val, by omega⟩]
  unfold PC k0_pay29 k0_pay28 k0_pay27 k0_pay26 k0_pay25
  refine (congrFun (shapeCast_self _ _) _).trans (place _ _ _ _ _ _ r t _ _ (fun k => ?_) ?_)
  · rw [iota_fun]; rfl
  · rw [iota_fun]; rfl

/-- The whole dispatch matrix. -/
theorem PALL_apply (r : ℕ) (h : r < 768) (t : Fin 512) : PALL m ρ c r t = entry m ρ c (ex c.val r) (r % 48) t := by
  unfold PALL
  split_ifs with h1 h2
  · refine (pieceC m ρ c ⟨r % 96, by omega⟩ t).trans ?_
    show entry m ρ c (ex c.val (0 + r % 96)) (r % 96 % 48) t = _
    rw [show 0 + r % 96 = r by omega, show r % 96 % 48 = r % 48 by omega]
  · refine (pieceA m ρ c ⟨(r - 96) % 384, by omega⟩ t).trans ?_
    show entry m ρ c (ex c.val (96 + (r - 96) % 384)) ((r - 96) % 384 % 48) t = _
    rw [show 96 + (r - 96) % 384 = r by omega, show (r - 96) % 384 % 48 = r % 48 by omega]
  · refine (pieceB m ρ c ⟨(r - 480) % 288, by omega⟩ t).trans ?_
    show entry m ρ c (ex c.val (480 + (r - 480) % 288)) ((r - 480) % 288 % 48) t = _
    rw [show 480 + (r - 480) % 288 = r by omega, show (r - 480) % 288 % 48 = r % 48 by omega]

end Cert.KernelIdeal.Run

end
-- ==== Proof.IdealTable.lean ====
/- Hand-written: the dispatch matrix as ones and noughts. A token's place is the number of earlier tokens of its expert. -/
module

public import proofs.«01_k».proof.Proof.IdealWords
public import Idealize.ShloMosaic.Lib.IdealHost
public import Idealize.ShloMosaic.Lib.ValueLayout

@[expose] public section

noncomputable section

namespace Cert.KernelIdeal.Run

open Idealize.ShloMosaic Idealize.ShloMosaic.TcCoe Idealize.SL.Sem Idealize.ShloMosaic.ValueIdx
open Cert.KernelIdeal Cert.KernelIdeal.Gen Cert.Rows

/-- A flag as a number. -/
theorem flag_toInt (b : Bool) : (((Scalar.extui (BitVec.ofBool b)).toInt : ℝ) : EReal) = if b then 1 else 0 := by
  cases b <;> simp [Scalar.extui]

/-- Whether a word is the number `k`. -/
theorem hot_eq (k : ℕ) (w : BitVec 32) : hot k w = if w = BitVec.ofNat 32 k then 1 else 0 := by
  refine (flag_toInt (BitVec.ofNat 32 k == w)).trans ?_
  simp only [beq_iff_eq, eq_comm (a := w)]

/-- Whether a number is one more than the slot. -/
theorem bit_eq (a : EReal) (s : ℕ) (h : s < 48) : bit a (BitVec.ofNat 32 (s + 1)) = if a = ((s : ℝ) : EReal) + 1 then 1 else 0 := by
  have hs : ((BitVec.ofNat 32 (s + 1)).toInt : ℝ) = (s : ℝ) + 1 := by
    have : ∀ s : Fin 48, (BitVec.ofNat 32 (s.val + 1)).toInt = s.val + 1 := by decide
    rw [this ⟨s, h⟩]; push_cast; rfl
  refine (flag_toInt (decide (a = _))).trans ?_
  rw [hs]
  simp only [decide_eq_true_eq]
  rfl

variable (m : (ℓ : Loc nD τ sig) → Buf (Elt Ideal) ℓ) (ρ : Dev nD → PrngReg) (c : Dev nD)

/-- The expert's word of a token. -/
def asg (t : Fin 512) : BitVec 32 := AS m ρ c (ix1 t)

/-- How many earlier tokens have the same expert. -/
def rank (t : Fin 512) : ℕ := (Finset.univ.filter fun u : Fin 512 => u < t ∧ asg m ρ c u = asg m ρ c t).card

/-- The order of two tokens' numbers as words. -/
theorem slt_eq (u t : Fin 512) : (BitVec.ofNat 32 u.val).slt (BitVec.ofNat 32 t.val) = decide (u < t) := by
  have h : ∀ u : Fin 512, (BitVec.ofNat 32 u.val).toInt = u.val := by decide +kernel
  rw [BitVec.slt, h, h]
  exact decide_eq_decide.2 Int.ofNat_lt

/-- Words laid along every row. -/
theorem row_apply (a : IVec S512 32) (k : Fin 16) (t : Fin 512) :
    broadcastTo S16x512 (shapeCast S1x512 (shapeCast S1x512 (shapeCast S512 a shapeCasts_S512_S512) shapeCasts_S512_S1x512) shapeCasts_S1x512_S1x512)
      broadcasts_S1x512_S16x512 (ix2 k t) = a (ix1 t) := by
  rw [shapeCast_self, shapeCast_self]
  refine (broadcastTo_apply _ _ (ix2 k t) (ix2 (0 : Fin 1) t) fun a => ?_).trans ?_
  · fin_cases a <;> rfl
  · refine (shapeCast_addUnit_apply ![512] a _ _).trans (congrArg a (funext fun a => ?_))
    fin_cases a; rfl

/-- An equality of words as a number, the other way round. -/
theorem hot_comm (k : ℕ) (w : BitVec 32) : (((Scalar.extui (Scalar.cmpi .eq w (BitVec.ofNat 32 k))).toInt : ℝ) : EReal) = hot k w := by
  rw [hot_eq]
  refine (flag_toInt (w == BitVec.ofNat 32 k)).trans ?_
  simp only [beq_iff_eq]

/-- The kernel's rank table at an expert and a token, from the words laid along every row. -/
theorem table (B : IVec S16x512 32) (a : Fin 512 → BitVec 32) (hB : ∀ k t, B (ix2 k t) = a t) (k : Fin 16) (t : Fin 512) :
    (mulf (sitofp .f32 (extui 32 (cmpi .eq B (iota .tc S16x512 32 [0] iota_S16x512_d0_w32)) natLt_1_32))
      (addf (matmul (DotDims.plain 16 512 512) none
        (truncf .bf16 (sitofp .f32 (extui 32 (cmpi .eq B (iota .tc S16x512 32 [0] iota_S16x512_d0_w32)) natLt_1_32) : FVec Ideal S16x512 .f32) bitsLt_bf16_f32)
        (truncf .bf16 (sitofp .f32 (extui 32 (cmpi .slt (iota .tc S512x512 32 [0] iota_S512x512_d0_w32) (iota .tc S512x512 32 [1] iota_S512x512_d1_w32)) natLt_1_32) : FVec Ideal S512x512 .f32) bitsLt_bf16_f32)
        (constant S16x512 .f32 0x00000000#32)) (broadcast S16x512 (Scalar.ofBits .f32 0x3F800000#32))) : FVec Ideal S16x512 .f32) (ix2 k t)
    = hot k.val (a t) * ((∑ u : Fin 512, hot k.val (a u) * (if u < t then 1 else 0)) + 1) := by
  rw [iota_fun, iota_fun, iota_fun]
  refine congrArg₂ (fun p q : EReal => p * q) ?_ (congrArg₂ (fun p q : EReal => p + q) ?_ Ideal.ofBits_one_f32)
  · rw [← hB k t]
    exact hot_comm k.val (B (ix2 k t))
  · refine (Ideal.matmul_plain_apply none _ _ _ k t).trans ?_
    refine (congrArg (· + _) Ideal.ofBits_zero_f32).trans ((zero_add _).trans (Finset.sum_congr rfl fun u _ => ?_))
    refine congrArg₂ (fun p q : EReal => p * q) ?_ ?_
    · rw [← hB k u]
      exact hot_comm k.val (B (ix2 k u))
    · refine (flag_toInt ((BitVec.ofNat 32 u.val).slt (BitVec.ofNat 32 t.val))).trans ?_
      rw [slt_eq]
      simp only [decide_eq_true_eq]

/-- The rank table: at a token's own expert one more than its rank, elsewhere nought. -/
theorem CODE_apply (k : Fin 16) (t : Fin 512) : CODE m ρ c (ix2 k t)
    = hot k.val (asg m ρ c t) * ((∑ u : Fin 512, hot k.val (asg m ρ c u) * (if u < t then 1 else 0)) + 1) :=
  table _ (asg m ρ c) (fun k t => row_apply (AS m ρ c) k t) k t

/-- The rank table, counted. -/
theorem CODE_eq (k : Fin 16) (t : Fin 512) : CODE m ρ c (ix2 k t)
    = if asg m ρ c t = BitVec.ofNat 32 k.val then ((rank m ρ c t : ℝ) : EReal) + 1 else 0 := by
  rw [CODE_apply]
  simp only [hot_eq]
  by_cases h : asg m ρ c t = BitVec.ofNat 32 k.val
  · rw [if_pos h, if_pos h, one_mul]
    congr 1
    simp only [← h, rank, ite_mul, one_mul, zero_mul, ← ite_and, Finset.sum_boole, and_comm]
    simp
  · rw [if_neg h, if_neg h, zero_mul]

/-- The dispatch matrix's entry: one where the token has the row's expert and the row's slot is its rank. -/
theorem entry_eq (e s : ℕ) (he : e < 16) (hs : s < 48) (t : Fin 512) : entry m ρ c e s t
    = if asg m ρ c t = BitVec.ofNat 32 e ∧ rank m ρ c t = s then 1 else 0 := by
  unfold entry
  rw [bit_eq _ _ hs, Finset.sum_eq_single (⟨e, he⟩ : Fin 16)]
  · rw [hot_eq, if_pos rfl, one_mul, CODE_eq]
    by_cases h : asg m ρ c t = BitVec.ofNat 32 e
    · rw [if_pos h]
      simp only [h, true_and]
      refine if_congr ?_ rfl rfl
      norm_cast
      exact Nat.add_right_cancel_iff
    · have h0 : ¬ (0 : EReal) = ((s : ℝ) : EReal) + 1 := by norm_cast
      rw [if_neg h, if_neg h0, if_neg fun q => h q.1]
  · intro k _ hk
    rw [hot_eq, if_neg, zero_mul]
    intro h
    have := congrArg BitVec.toNat h
    simp only [BitVec.toNat_ofNat] at this
    exact hk (Fin.ext (by have := k.isLt; simp only; omega))
  · exact fun h => absurd (Finset.mem_univ _) h

end Cert.KernelIdeal.Run

end
-- ==== Proof.IdealRows.lean ====
/- Hand-written: the dispatched rows, the experts' results and the returned rows, as sums over the extended reals. -/
module

public import proofs.«01_k».proof.Proof.IdealTable

@[expose] public section

noncomputable section

namespace Cert.KernelIdeal.Run

open Idealize.ShloMosaic Idealize.ShloMosaic.TcCoe Idealize.SL.Sem Idealize.ShloMosaic.ValueIdx
open Cert.KernelIdeal Cert.KernelIdeal.Gen Cert.Rows

/-- A product from nought. -/
theorem dot_zero {M K N : ℕ} {φ₁ φ₂ : FTy} (lhs : FVec Ideal ⟨2, ![M, K]⟩ φ₁) (rhs : FVec Ideal ⟨2, ![K, N]⟩ φ₂) (r : Fin M) (k : Fin N) :
    (matmul (DotDims.plain M K N) none lhs rhs (constant ⟨2, ![M, N]⟩ .f32 0x00000000#32) : FVec Ideal ⟨2, ![M, N]⟩ .f32) (ix2 r k)
    = ∑ d : Fin K, lhs (ix2 r d) * rhs (ix2 d k) :=
  (Ideal.matmul_plain_apply none lhs rhs _ r k).trans ((congrArg (· + _) Ideal.ofBits_zero_f32).trans (zero_add _))

/-- One expert applied to one row. -/
def ffn (A : Fin 512 → Fin 1024 → EReal) (B : Fin 1024 → Fin 512 → EReal) (v : Fin 512 → EReal) (k : Fin 512) : EReal :=
  ∑ f : Fin 1024, max (∑ d : Fin 512, v d * A d f) 0 * B f k

/-- A block of rows through one expert. -/
theorem pay35_apply (X : FVec Ideal S192x512 .bf16) (A : FVec Ideal S1x512x1024 .bf16) (B : FVec Ideal S1x1024x512 .bf16) (i : Fin 192) (k : Fin 512) :
    (k0_pay35 (F := Ideal) X A B (ix2 i k) : EReal) = ffn (fun d f => A (ix3 0 d f)) (fun f k => B (ix3 0 f k)) (fun d => X (ix2 i d)) k := by
  unfold k0_pay35
  refine (congrFun (shapeCast_self _ _) _).trans ((dot_zero _ _ i k).trans (Finset.sum_congr rfl fun f _ => ?_))
  refine congrArg₂ (fun p q : EReal => p * q) ?_ (shapeCast_1ab_ab_apply B _ f k)
  refine congrArg₂ (fun p q : EReal => max p q) ((dot_zero _ _ i f).trans (Finset.sum_congr rfl fun d _ => ?_)) Ideal.ofBits_zero_f32
  exact congrArg (fun q : EReal => X (ix2 i d) * q) (shapeCast_1ab_ab_apply A _ d f)

variable (m : (ℓ : Loc nD τ sig) → Buf (Elt Ideal) ℓ) (ρ : Dev nD → PrngReg) (c : Dev nD)

/-- A device's tokens. -/
def token (t d : Fin 512) : EReal := XS m ρ c (ix2 t d)
/-- The first layer. -/
def wa (j : Fin 2) (d : Fin 512) (f : Fin 1024) : EReal := W1S m ρ c (ix3 j d f)
/-- The second layer. -/
def wb (j : Fin 2) (f : Fin 1024) (k : Fin 512) : EReal := W2S m ρ c (ix3 j f k)

/-- A dispatched row. -/
theorem DS_apply (r : ℕ) (k : Fin 512) : DS m ρ c r k = ∑ t : Fin 512, PALL m ρ c r t * token m ρ c t k := by
  unfold DS rowOf k0_pay13
  refine (congrFun (shapeCast_self _ _) _).trans ((dot_zero _ _ _ k).trans (Finset.sum_congr rfl fun t _ => ?_))
  refine congrArg₂ (fun p q : EReal => p * q) ?_ (congrFun (shapeCast_self (XS m ρ c) _) (ix2 t k))
  exact congrArg (fun n => PALL m ρ c n t) (Nat.div_add_mod r 96)

/-- The first layer's weights of expert `j`. -/
theorem w1e_apply (j : Fin 2) (d : Fin 512) (f : Fin 1024) : w1e m ρ c j.val (ix3 0 d f) = wa m ρ c j d f := by
  have e : W1B m ρ c = W1S m ρ c := by
    unfold W1B k0_pay33
    exact Eq.trans (shapeCast_self (shapeCast S2x512x1024 (W1S m ρ c) _) _) (shapeCast_self _ _)
  fin_cases j <;>
  · refine (congrFun e _).trans (congrArg (W1S m ρ c) (funext fun a => Fin.ext ?_))
    fin_cases a <;> simp <;> rfl

/-- The second layer's weights of expert `j`. -/
theorem w2e_apply (j : Fin 2) (f : Fin 1024) (k : Fin 512) : w2e m ρ c j.val (ix3 0 f k) = wb m ρ c j f k := by
  have e : W2B m ρ c = W2S m ρ c := by
    unfold W2B k0_pay34
    exact Eq.trans (shapeCast_self (shapeCast S2x1024x512 (W2S m ρ c) _) _) (shapeCast_self _ _)
  fin_cases j <;>
  · refine (congrFun e _).trans (congrArg (W2S m ρ c) (funext fun a => Fin.ext ?_))
    fin_cases a <;> simp <;> rfl

/-- A row of a local expert's results. -/
theorem YE_apply (j : Fin 2) (r : ℕ) (k : Fin 512) : YE m ρ c j.val r k = ffn (wa m ρ c j) (wb m ρ c j) (XIN m ρ c j.val r) k := by
  unfold YE rowOf
  refine (pay35_apply _ _ _ _ k).trans ?_
  have h1 : (fun d f => w1e m ρ c j.val (ix3 0 d f)) = wa m ρ c j := funext fun d => funext fun f => w1e_apply m ρ c j d f
  have h2 : (fun f k => w2e m ρ c j.val (ix3 0 f k)) = wb m ρ c j := funext fun f => funext fun k => w2e_apply m ρ c j f k
  rw [h1, h2]
  refine congrArg (fun v => ffn (wa m ρ c j) (wb m ρ c j) v k) (funext fun d => ?_)
  exact congrArg (fun n => XIN m ρ c j.val n d) (Nat.div_add_mod r 192)

/-- A returned row: the expert that the row is for, applied to the dispatched row. -/
theorem YRET_apply (r : ℕ) (h : r < 768) (k : Fin 512) : YRET m ρ c r k
    = ffn (wa m ρ (pl c (r / 96)) ⟨r / 48 % 2, Nat.mod_lt _ (by decide)⟩) (wb m ρ (pl c (r / 96)) ⟨r / 48 % 2, Nat.mod_lt _ (by decide)⟩) (DS m ρ c r) k := by
  unfold YRET
  refine (YE_apply m ρ (pl c (r / 96)) ⟨r / 48 % 2, Nat.mod_lt _ (by decide)⟩ _ k).trans ?_
  congr 1
  unfold XIN
  rw [pl_pl, pl_of_dvd c (by omega)]
  exact congrArg (DS m ρ c) (by simp only; omega)

/-- The dimensions of a product of a transposed matrix with a matrix. -/
abbrev colDims {K M N : ℕ} (wf : DotDims.WF ⟨2, ![K, M]⟩ ⟨2, ![K, N]⟩ ⟨2, ![M, N]⟩ [0] [0] [1] [1] [] []) :
    DotDims ⟨2, ![K, M]⟩ ⟨2, ![K, N]⟩ ⟨2, ![M, N]⟩ where
  lhsContracting := [0]
  rhsContracting := [0]
  lhsNonContracting := [1]
  rhsNonContracting := [1]
  lhsBatch := []
  rhsBatch := []
  wf := wf

/-- A transposed matrix times a matrix, from nought. -/
theorem col_zero {K M N : ℕ} {φ₁ φ₂ : FTy} (wf) (lhs : FVec Ideal ⟨2, ![K, M]⟩ φ₁) (rhs : FVec Ideal ⟨2, ![K, N]⟩ φ₂) (i : Fin M) (k : Fin N) :
    (matmul (colDims wf) none lhs rhs (constant ⟨2, ![M, N]⟩ .f32 0x00000000#32) : FVec Ideal ⟨2, ![M, N]⟩ .f32) (ix2 i k)
    = ∑ r : Fin K, lhs (ix2 r i) * rhs (ix2 r k) := by
  refine (Ideal.matmul_apply ..).trans ((congrArg (· + _) Ideal.ofBits_zero_f32).trans ((zero_add _).trans ?_))
  rw [← Equiv.sum_comp (contrEquiv1 (colDims wf) K rfl rfl).symm]
  refine Finset.sum_congr rfl fun r _ => ?_
  have hr := contrEquiv1_symm_val (colDims wf) K rfl rfl r
  refine congrArg₂ (fun p q : EReal => p * q) (congrArg lhs (funext fun a => Fin.ext ?_)) (congrArg rhs (funext fun a => Fin.ext ?_))
  · match a with
    | ⟨0, _⟩ => exact hr
    | ⟨1, _⟩ => rfl
  · match a with
    | ⟨0, _⟩ => exact hr
    | ⟨1, _⟩ => rfl

/-- The result: every row's returned value at the tokens placed in it. -/
theorem OUT_apply (t k : Fin 512) : OUT m ρ c (ix2 t k) = ∑ r ∈ Finset.range 768, PALL m ρ c r t * YRET m ρ c r k := by
  have h : ∀ n lo : ℕ, (∑ i : Fin n, PALL m ρ c (lo + i.val) t * YRET m ρ c (lo + i.val) k : EReal)
      = ∑ i ∈ Finset.range n, PALL m ρ c (lo + i) t * YRET m ρ c (lo + i) k :=
    fun n lo => Fin.sum_univ_eq_sum_range (fun i => (PALL m ρ c (lo + i) t * YRET m ρ c (lo + i) k : EReal)) n
  have e : OUT m ρ c (ix2 t k) = (((∑ i : Fin 384, PALL m ρ c (384 + i.val) t * YRET m ρ c (384 + i.val) k)
      + ∑ i : Fin 96, PALL m ρ c (0 + i.val) t * YRET m ρ c (0 + i.val) k)
      + ∑ i : Fin 288, PALL m ρ c (96 + i.val) t * YRET m ρ c (96 + i.val) k : EReal) := by
    unfold OUT k0_pay44 k0_pay43
    exact congrArg₂ (fun p q : EReal => p + q) (congrArg₂ (fun p q : EReal => p + q) (col_zero _ _ _ t k) (col_zero _ _ _ t k)) (col_zero _ _ _ t k)
  rw [e, h, h, h, show 768 = (96 + 288) + 384 from rfl, Finset.sum_range_add, Finset.sum_range_add]
  simp only [Nat.zero_add]
  rw [add_assoc, add_comm]

end Cert.KernelIdeal.Run

end
-- ==== Proof.IdealOut.lean ====
/- Hand-written: the kernel's result at a token: its expert's value of the token, when the token has a slot. -/
module

public import proofs.«01_k».proof.Proof.IdealRows

@[expose] public section

noncomputable section

namespace Cert.KernelIdeal.Run

open Idealize.ShloMosaic Idealize.ShloMosaic.TcCoe Idealize.SL.Sem Idealize.ShloMosaic.ValueIdx
open Cert.KernelIdeal Cert.KernelIdeal.Gen Cert.Rows

variable (m : (ℓ : Loc nD τ sig) → Buf (Elt Ideal) ℓ) (ρ : Dev nD → PrngReg) (c : Dev nD)

/-- The rows' experts are among the sixteen. -/
theorem ex_lt (d r : ℕ) : ex d r < 16 := by unfold ex; omega

/-- The dispatch matrix: one where the token has the row's expert and the row's slot is its rank. -/
theorem PALL_eq (r : ℕ) (h : r < 768) (t : Fin 512) : PALL m ρ c r t
    = (if asg m ρ c t = BitVec.ofNat 32 (ex c.val r) ∧ rank m ρ c t = r % 48 then 1 else 0 : EReal) :=
  (PALL_apply m ρ c r h t).trans (entry_eq m ρ c _ _ (ex_lt _ _) (Nat.mod_lt _ (by decide)) t)

/-- A later token of the same expert has a larger rank. -/
theorem rank_lt {t u : Fin 512} (h : t < u) (e : asg m ρ c t = asg m ρ c u) : rank m ρ c t < rank m ρ c u := by
  refine Finset.card_lt_card (Finset.ssubset_iff_subset_ne.2 ⟨fun v hv => ?_, fun q => ?_⟩)
  · simp only [Finset.mem_filter, Finset.mem_univ, true_and] at hv ⊢
    exact ⟨hv.1.trans h, hv.2.trans e⟩
  · have hm : t ∈ Finset.univ.filter fun v : Fin 512 => v < u ∧ asg m ρ c v = asg m ρ c u :=
      Finset.mem_filter.2 ⟨Finset.mem_univ _, h, e⟩
    rw [← q] at hm
    exact lt_irrefl _ (Finset.mem_filter.1 hm).2.1

/-- Expert and rank determine the token. -/
theorem rank_inj {t u : Fin 512} (e : asg m ρ c t = asg m ρ c u) (h : rank m ρ c t = rank m ρ c u) : t = u := by
  rcases lt_trichotomy t u with q | q | q
  · exact absurd h (rank_lt m ρ c q e).ne
  · exact q
  · exact absurd h (rank_lt m ρ c q e.symm).ne'

/-- A row that holds a token is that token. -/
theorem DS_token (r : ℕ) (h : r < 768) (t : Fin 512) (e : asg m ρ c t = BitVec.ofNat 32 (ex c.val r)) (hr : rank m ρ c t = r % 48) :
    DS m ρ c r = token m ρ c t := by
  funext k
  rw [DS_apply, Finset.sum_eq_single t]
  · rw [PALL_eq m ρ c r h, if_pos ⟨e, hr⟩]
    exact one_mul _
  · intro u _ hu
    rw [PALL_eq m ρ c r h, if_neg fun q => hu (rank_inj m ρ c (q.1.trans e.symm) (q.2.trans hr.symm))]
    exact zero_mul _
  · exact fun q => absurd (Finset.mem_univ _) q

/-- Words of different experts differ. -/
theorem word_inj {a b : ℕ} (ha : a < 16) (hb : b < 16) (h : BitVec.ofNat 32 a = BitVec.ofNat 32 b) : a = b := by
  have := congrArg BitVec.toNat h
  simp only [BitVec.toNat_ofNat] at this
  omega

/-- A token whose expert exists and has a slot for it gets its expert's value. -/
theorem OUT_own (e : ℕ) (he : e < 16) (t k : Fin 512) (h : asg m ρ c t = BitVec.ofNat 32 e) (hr : rank m ρ c t < 48) :
    OUT m ρ c (ix2 t k) = ffn (wa m ρ ⟨e / 2, by show e / 2 < 8; omega⟩ ⟨e % 2, by omega⟩)
      (wb m ρ ⟨e / 2, by show e / 2 < 8; omega⟩ ⟨e % 2, by omega⟩) (token m ρ c t) k := by
  have hc : c.val < 8 := c.isLt
  obtain ⟨r, hr768, hex, hslot, hdev, hloc⟩ : ∃ r, r < 768 ∧ ex c.val r = e ∧ r % 48 = rank m ρ c t ∧ (c.val + r / 96) % 8 = e / 2 ∧ r / 48 % 2 = e % 2 :=
    ⟨48 * (2 * ((e / 2 + 8 - c.val) % 8) + e % 2) + rank m ρ c t, by omega, by unfold ex; omega, by omega, by omega, by omega⟩
  rw [OUT_apply, Finset.sum_eq_single r]
  · rw [PALL_eq m ρ c r hr768, if_pos ⟨h.trans (by rw [hex]), hslot.symm⟩, YRET_apply m ρ c r hr768]
    have hd : pl c (r / 96) = ⟨e / 2, by show e / 2 < 8; omega⟩ := Fin.ext hdev
    have hj : (⟨r / 48 % 2, Nat.mod_lt _ (by decide)⟩ : Fin 2) = ⟨e % 2, by omega⟩ := Fin.ext hloc
    rw [hd, hj, DS_token m ρ c r hr768 t (h.trans (by rw [hex])) hslot.symm]
    exact one_mul (_ : EReal)
  · intro u hu hne
    have hu768 := Finset.mem_range.1 hu
    rw [PALL_eq m ρ c u hu768, if_neg]
    · exact zero_mul _
    · rintro ⟨q1, q2⟩
      have q := word_inj he (ex_lt _ _) (h.symm.trans q1)
      unfold ex at q hex
      omega
  · exact fun q => absurd (Finset.mem_range.2 hr768) q

/-- A token whose expert does not exist gets nought. -/
theorem OUT_none (t k : Fin 512) (h : ∀ e, e < 16 → asg m ρ c t ≠ BitVec.ofNat 32 e) : OUT m ρ c (ix2 t k) = (0 : EReal) := by
  have z : (∑ r ∈ Finset.range 768, PALL m ρ c r t * YRET m ρ c r k : EReal) = 0 := Finset.sum_eq_zero fun r hr => by
    rw [PALL_eq m ρ c r (Finset.mem_range.1 hr), if_neg fun q => h _ (ex_lt _ _) q.1]
    exact zero_mul (_ : EReal)
  exact (OUT_apply m ρ c t k).trans z

end Cert.KernelIdeal.Run

end
-- ==== Proof.IdealFits.lean ====
/- Hand-written: the arguments as the body reads them, and the precondition: every token has a slot with its expert. -/
module

public import proofs.«01_k».proof.Proof.IdealOut
public import proofs.«01_k».proof.Proof.Gen.Pre_fits_KernelIdeal
public import proofs.«01_k».proof.Pre_fits_KernelIdeal
public import Idealize.ShloMosaic.Lib.ReduceAll
public import Idealize.ShloMosaic.Lib.WordCmp
public import Idealize.ShloMosaic.Lib.IndicatorCount
public import Idealize.ShloMosaic.Lib.Pointwise.Reduce

@[expose] public section

noncomputable section

namespace Cert.KernelIdeal.Run

open Idealize.ShloMosaic hiding ix1 ix2 ix3
open Idealize.ShloMosaic.TcCoe Idealize.SL.Sem Idealize.ShloMosaic.ValueIdx
open Cert.KernelIdeal Cert.KernelIdeal.Gen Cert.Rows

variable (m : (ℓ : Loc nD τ sig) → Buf (Elt Ideal) ℓ) (ρ : Dev nD → PrngReg) (c : Dev nD)

/-- The tokens' window is the whole array. -/
theorem XS_apply (i : S512x512.Idx) : XS m ρ c i = m ((c : Thread nD τ).loc main_arg0) i := by
  refine congrArg (m ((c : Thread nD τ).loc main_arg0)) (funext fun a => Fin.ext ?_)
  refine (Rect.emb_apply (win0_0.rect (0 : Fin 1)) i a).trans ?_
  fin_cases a <;> exact (Nat.zero_add _).trans (Nat.one_mul _)

/-- The experts' window is the whole array. -/
theorem AS_apply (i : S512.Idx) : AS m ρ c i = m ((c : Thread nD τ).loc main_arg1) i := by
  refine congrArg (m ((c : Thread nD τ).loc main_arg1)) (funext fun a => Fin.ext ?_)
  refine (Rect.emb_apply (win0_1.rect (0 : Fin 1)) i a).trans ?_
  fin_cases a; exact (Nat.zero_add _).trans (Nat.one_mul _)

/-- The first layer's window is the whole array. -/
theorem W1S_apply (i : S2x512x1024.Idx) : W1S m ρ c i = m ((c : Thread nD τ).loc main_arg2) i := by
  refine congrArg (m ((c : Thread nD τ).loc main_arg2)) (funext fun a => Fin.ext ?_)
  refine (Rect.emb_apply (win0_2.rect (0 : Fin 1)) i a).trans ?_
  fin_cases a <;> exact (Nat.zero_add _).trans (Nat.one_mul _)

/-- The second layer's window is the whole array. -/
theorem W2S_apply (i : S2x1024x512.Idx) : W2S m ρ c i = m ((c : Thread nD τ).loc main_arg3) i := by
  refine congrArg (m ((c : Thread nD τ).loc main_arg3)) (funext fun a => Fin.ext ?_)
  refine (Rect.emb_apply (win0_3.rect (0 : Fin 1)) i a).trans ?_
  fin_cases a <;> exact (Nat.zero_add _).trans (Nat.one_mul _)

/-- Adding up the flags of a row counts the row's set flags. -/
theorem count_eq (p : IVec ⟨2, ![16, 512]⟩ 1) (hw : 1 < 32) (hr : (⟨2, ![16, 512]⟩ : Shape).ReducesTo [1] ⟨1, ![16]⟩) (hu : 0 < (⟨0, ![]⟩ : Shape).numel)
    (e : Fin 16) : Host.reduce IntOp.addi (extui 32 p hw) (constantI ⟨0, ![]⟩ 32 0#32) hr hu (ix1 e)
      = BitVec.ofNat 32 (Finset.univ.filter fun u : Fin 512 => p (ix2 e u) = 1#1).card := by
  rw [Host.reduce_eq_fold, hr.fold_fiber_r2_a1]
  exact IndicatorCount.fold_addi_setWidth_eq_card (fun u : Fin 512 => p (ix2 e u)) Finset.univ

/-- The precondition counts at most 48 tokens of every expert. -/
theorem count_le (x : FVec Ideal S512x512 .bf16) (a : IVec S512 32) (w1 : FVec Ideal S2x512x1024 .bf16) (w2 : FVec Ideal S2x1024x512 .bf16)
    (h : Cert.Pre_fits_KernelIdeal.fn (F := Ideal) x a w1 w2 = fun _ => 1#1) (e : Fin 16) :
    (Finset.univ.filter fun u : Fin 512 => a (ix1 u) = BitVec.ofNat 32 e.val).card ≤ 48 := by
  have h0 := congrFun h (fun b => b.elim0)
  unfold Cert.Pre_fits_KernelIdeal.fn at h0
  have : Subsingleton Cert.Pre_fits_KernelIdeal.S_.Idx := ⟨fun p q => funext fun b => b.elim0⟩
  have h1 := Host.reduce_andi_all _ _ _ _ _ h0 (ix1 e)
  have h2 := (congrArg (fun v => IntOp.cmpi .sle v 48#32) (count_eq _ _ _ _ e)).symm.trans h1
  refine le_trans (le_of_eq (congrArg Finset.card (Finset.filter_congr fun u _ => ?_)))
    ((WordCmp.cmpi_sle_ofNat_eq_one_iff ((Finset.card_le_univ _).trans_lt (by simp)) (by decide)).mp h2)
  refine Iff.trans (b := Scalar.cmpi .eq (a (ix1 u)) (BitVec.ofNat 32 e.val) = 1#1) ?_
    (Eq.congr_left (congrArg₂ (fun p q : BitVec 32 => Scalar.cmpi .eq p q) ?_ ?_))
  · exact (beq_iff_eq.symm.trans ((show ∀ b : Bool, BitVec.ofBool b = 1#1 ↔ b = true by decide) (a (ix1 u) == BitVec.ofNat 32 e.val)).symm)
  · refine ((broadcastInDim_apply _ _ _ (ix2 e u) (ix2 (0 : Fin 1) u) fun b => by fin_cases b <;> rfl).trans ?_).symm
    exact broadcastInDim_apply _ _ _ (ix2 (0 : Fin 1) u) (ix1 u) fun b => by fin_cases b; rfl
  · refine ((broadcastInDim_apply _ _ _ (ix2 e u) (ix2 e (0 : Fin 1)) fun b => by fin_cases b <;> rfl).trans ?_).symm
    exact broadcastInDim_apply _ _ _ (ix2 e (0 : Fin 1)) (ix1 e) fun b => by fin_cases b; rfl

/-- A token the precondition covers stands among the first 48 of its expert. -/
theorem rank_small (hc : ∀ e : Fin 16, (Finset.univ.filter fun u : Fin 512 => asg m ρ c u = BitVec.ofNat 32 e.val).card ≤ 48)
    (e : ℕ) (he : e < 16) (t : Fin 512) (h : asg m ρ c t = BitVec.ofNat 32 e) : rank m ρ c t < 48 := by
  refine lt_of_lt_of_le (Finset.card_lt_card ((Finset.ssubset_iff_of_subset fun u hu => ?_).mpr ⟨t, ?_, ?_⟩)) (hc ⟨e, he⟩)
  · exact Finset.mem_filter.mpr ⟨Finset.mem_univ u, (Finset.mem_filter.mp hu).2.2.trans h⟩
  · exact Finset.mem_filter.mpr ⟨Finset.mem_univ t, h⟩
  · exact fun ht => lt_irrefl t (Finset.mem_filter.mp ht).2.1

end Cert.KernelIdeal.Run

end
-- ==== Proof.IdealReference.lean ====
/- Hand-written: the reference's result at a token: the sum over the experts that the token names. -/
module

public import proofs.«01_k».proof.Proof.IdealRows
public import proofs.«01_k».proof.Proof.Gen.ReferenceIdeal.Run
public import Idealize.ShloMosaic.Lib.Pointwise.Reduce

@[expose] public section

noncomputable section

namespace Cert.ReferenceIdeal.Value

open Idealize.ShloMosaic hiding ix1 ix2 ix3
open Idealize.ShloMosaic.TcCoe Idealize.SL.Sem Idealize.ShloMosaic.ValueIdx
open Cert.ReferenceIdeal Cert.ReferenceIdeal.Gen

variable (x : FVec Ideal S4096x512 .bf16) (a : IVec S4096 32) (w1 : FVec Ideal S16x512x1024 .bf16) (w2 : FVec Ideal S16x1024x512 .bf16)

/-- The first layer of every expert on every token, its tokens last. -/
def layer1 : FVec Ideal S16x1024x4096 .f32 :=
  Host.dotGeneral dot_S16x512x1024_S4096x512_S16x1024x4096_1_1_02_0_n_n none (extf .f32 w1 bitsLt_bf16_f32) (extf .f32 x bitsLt_bf16_f32)

/-- Its positive part, its features last. -/
def hidden : FVec Ideal S16x4096x1024 .f32 :=
  maximumf (transpose S16x4096x1024 [0, 2, 1] (layer1 x w1) transposes_S16x1024x4096_S16x4096x1024_0_2_1)
    (broadcastInDim S16x4096x1024 ![] bcast_S_S16x4096x1024 (constant S_ .f32 0x00000000#32))

/-- Every expert on every token. -/
def every : FVec Ideal S16x4096x512 .f32 :=
  Host.dotGeneral dot_S16x4096x1024_S16x1024x512_S16x4096x512_2_1_1_2_0_0 none (hidden x w1) (extf .f32 w2 bitsLt_bf16_f32)

/-- Which expert each token names. -/
def mask : IVec S16x4096x512 1 :=
  broadcastInDim S16x4096x512 ![0, 1, 2] bcast_S16x4096x1_S16x4096x512_0_1_2 (broadcastInDim S16x4096x1 ![0, 1] bcast_S16x4096_S16x4096x1_0_1
    (cmpi .eq (broadcastInDim S16x4096 ![0, 1] bcast_S1x4096_S16x4096_0_1 (broadcastInDim S1x4096 ![1] bcast_S4096_S1x4096_1 a))
      (broadcastInDim S16x4096 ![0, 1] bcast_S16x1_S16x4096_0_1 (broadcastInDim S16x1 ![0] bcast_S16_S16x1_0 (iotaInDim S16 32 0)))))

/-- The reference's result. -/
def result : FVec Ideal S4096x512 .f32 :=
  Host.reduceAdd (select (mask a) (every x w1 w2) (broadcastInDim S16x4096x512 ![] bcast_S_S16x4096x512 (id (constant S_ .f32 0x00000000#32))))
    (constant S_ .f32 0x00000000#32) reducesTo_S16x4096x512_S4096x512_d0 h_S_

/-- The first layer at an index. -/
theorem layer1_apply (e : Fin 16) (f : Fin 1024) (t : Fin 4096) :
    (layer1 x w1 (ix3 e f t) : EReal) = ∑ d : Fin 512, x (ix2 t d) * w1 (ix3 e d f) := by
  refine (Ideal.dotGeneral_apply ..).trans ?_
  rw [← Equiv.sum_comp (contrEquiv1 dot_S16x512x1024_S4096x512_S16x1024x4096_1_1_02_0_n_n 512 rfl rfl).symm]
  refine Finset.sum_congr rfl fun d _ => ?_
  have hd := contrEquiv1_symm_val dot_S16x512x1024_S4096x512_S16x1024x4096_1_1_02_0_n_n 512 rfl rfl d
  refine (congrArg₂ (fun p q : EReal => p * q) (congrArg w1 (funext fun b => Fin.ext ?_)) (congrArg x (funext fun b => Fin.ext ?_))).trans (mul_comm _ _)
  · match b with
    | ⟨0, _⟩ => rfl
    | ⟨1, _⟩ => exact hd
    | ⟨2, _⟩ => rfl
  · match b with
    | ⟨0, _⟩ => rfl
    | ⟨1, _⟩ => exact hd

/-- Its positive part at an index. -/
theorem hidden_apply (e : Fin 16) (t : Fin 4096) (f : Fin 1024) :
    (hidden x w1 (ix3 e t f) : EReal) = max (∑ d : Fin 512, x (ix2 t d) * w1 (ix3 e d f)) 0 :=
  congrArg₂ (fun p q : EReal => max p q) ((transpose_ix3_021_apply (layer1 x w1) _ e t f).trans (layer1_apply x w1 e f t)) Ideal.ofBits_zero_f32

/-- An expert on a token. -/
theorem every_apply (e : Fin 16) (t : Fin 4096) (k : Fin 512) :
    (every x w1 w2 (ix3 e t k) : EReal) = KernelIdeal.Run.ffn (fun d f => w1 (ix3 e d f)) (fun f k => w2 (ix3 e f k)) (fun d => x (ix2 t d)) k := by
  refine (Ideal.dotGeneral_apply ..).trans ?_
  rw [← Equiv.sum_comp (contrEquiv1 dot_S16x4096x1024_S16x1024x512_S16x4096x512_2_1_1_2_0_0 1024 rfl rfl).symm]
  refine Finset.sum_congr rfl fun f _ => ?_
  have hf := contrEquiv1_symm_val dot_S16x4096x1024_S16x1024x512_S16x4096x512_2_1_1_2_0_0 1024 rfl rfl f
  refine congrArg₂ (fun p q : EReal => p * q) ((congrArg (hidden x w1) (funext fun b => Fin.ext ?_)).trans (hidden_apply x w1 e t f)) (congrArg w2 (funext fun b => Fin.ext ?_))
  · match b with
    | ⟨0, _⟩ => rfl
    | ⟨1, _⟩ => rfl
    | ⟨2, _⟩ => exact hf
  · match b with
    | ⟨0, _⟩ => rfl
    | ⟨1, _⟩ => exact hf
    | ⟨2, _⟩ => rfl

/-- The mask at an index. -/
theorem mask_apply (e : Fin 16) (t : Fin 4096) (k : Fin 512) : mask a (ix3 e t k) = Scalar.cmpi .eq (a (ix1 t)) (BitVec.ofNat 32 e.val) := by
  unfold mask
  refine (broadcastInDim_apply _ _ _ (ix3 e t k) (ix3 e t (0 : Fin 1)) fun b => by fin_cases b <;> rfl).trans ?_
  refine (broadcastInDim_apply _ _ _ (ix3 e t (0 : Fin 1)) (ix2 e t) fun b => by fin_cases b <;> rfl).trans ?_
  refine congrArg₂ (fun p q : BitVec 32 => Scalar.cmpi .eq p q) ?_ ?_
  · refine (broadcastInDim_apply _ _ _ (ix2 e t) (ix2 (0 : Fin 1) t) fun b => by fin_cases b <;> rfl).trans ?_
    exact broadcastInDim_apply _ _ _ (ix2 (0 : Fin 1) t) (ix1 t) fun b => by fin_cases b; rfl
  · refine (broadcastInDim_apply _ _ _ (ix2 e t) (ix2 e (0 : Fin 1)) fun b => by fin_cases b <;> rfl).trans ?_
    exact broadcastInDim_apply _ _ _ (ix2 e (0 : Fin 1)) (ix1 e) fun b => by fin_cases b; rfl

/-- The reference's result at a token. -/
theorem result_apply (t : Fin 4096) (k : Fin 512) : (result x a w1 w2 (ix2 t k) : EReal)
    = ∑ e : Fin 16, if a (ix1 t) = BitVec.ofNat 32 e.val
        then KernelIdeal.Run.ffn (fun d f => w1 (ix3 e d f)) (fun f k => w2 (ix3 e f k)) (fun d => x (ix2 t d)) k else 0 := by
  unfold result
  rw [Host.reduceAdd_apply, Ideal.hostReduceAdd_def, Ideal.hostReduceAdd_r3_a0]
  refine (congrArg (· + _) Ideal.ofBits_zero_f32).trans ((zero_add _).trans (Finset.sum_congr rfl fun e _ => ?_))
  refine (congrArg (fun c : BitVec 1 => Scalar.select c (every x w1 w2 (ix3 e t k)) (Ideal.ofBits .f32 0x00000000#32)) (mask_apply a e t k)).trans ?_
  rw [every_apply, Ideal.ofBits_zero_f32]
  unfold Scalar.select
  refine if_congr ?_ rfl rfl
  exact (show ∀ b : Bool, BitVec.ofBool b = 1#1 ↔ b = true by decide) (a (ix1 t) == BitVec.ofNat 32 e.val) |>.trans beq_iff_eq

end Cert.ReferenceIdeal.Value

end
-- ==== Proof.IdealValue.lean ====
/- Hand-written: each device's result is its block of the reference's result. -/
module

public import proofs.«01_k».proof.Proof.IdealFits
public import proofs.«01_k».proof.Proof.IdealReference
public import proofs.«01_k».proof.Defs

@[expose] public section

noncomputable section

namespace Cert.KernelIdeal.Run

open Idealize.ShloMosaic hiding ix1 ix2 ix3
open Idealize.ShloMosaic.TcCoe Idealize.SL.Sem Idealize.ShloMosaic.ValueIdx
open Cert.KernelIdeal Cert.KernelIdeal.Gen Cert.Rows

variable (m : (ℓ : Loc nD τ sig) → Buf (Elt Ideal) ℓ) (ρ : Dev nD → PrngReg) (c : Dev nD)
  (x : FVec Ideal ReferenceIdeal.S4096x512 .bf16) (a : IVec ReferenceIdeal.S4096 32)
  (w1 : FVec Ideal ReferenceIdeal.S16x512x1024 .bf16) (w2 : FVec Ideal ReferenceIdeal.S16x1024x512 .bf16)

/-- The place of a device's token among all tokens. -/
def place8 (t : Fin 512) : Fin 4096 := ⟨c.val * 512 + t.val, by have : c.val < 8 := c.isLt; omega⟩

/-- A device's token is the token of the whole array at its place. -/
theorem tok_eq (h : m ((c : Thread nD τ).loc main_arg0) = Layout.block ⟨2, ![512, 512]⟩ ⟨2, ![4096, 512]⟩ 0 8 c x) (t d : Fin 512) :
    token m ρ c t d = x (ix2 (place8 c t) d) := by
  refine (XS_apply m ρ c (ix2 t d)).trans ((congrFun h (ix2 t d)).trans ?_)
  exact congrArg x (funext fun b => Fin.ext (by match b with | ⟨0, _⟩ => rfl | ⟨1, _⟩ => rfl))

/-- A device's expert word is the word of the whole array at its token's place. -/
theorem asg_eq (h : m ((c : Thread nD τ).loc main_arg1) = Layout.block ⟨1, ![512]⟩ ⟨1, ![4096]⟩ 0 8 c a) (t : Fin 512) :
    asg m ρ c t = a (ix1 (place8 c t)) := by
  refine (AS_apply m ρ c (ix1 t)).trans ((congrFun h (ix1 t)).trans ?_)
  exact congrArg a (funext fun b => Fin.ext (by match b with | ⟨0, _⟩ => rfl))

/-- An expert's first layer on its device is that expert's first layer in the whole array. -/
theorem wa_eq (h : m ((c : Thread nD τ).loc main_arg2) = Layout.block ⟨3, ![2, 512, 1024]⟩ ⟨3, ![16, 512, 1024]⟩ 0 8 c w1) (e : Fin 16) (j : Fin 2)
    (he : c.val * 2 + j.val = e.val) (d : Fin 512) (f : Fin 1024) : wa m ρ c j d f = w1 (ix3 e d f) := by
  refine (W1S_apply m ρ c (ix3 j d f)).trans ((congrFun h (ix3 j d f)).trans ?_)
  exact congrArg w1 (funext fun b => Fin.ext (by match b with | ⟨0, _⟩ => exact he | ⟨1, _⟩ => rfl | ⟨2, _⟩ => rfl))

/-- An expert's second layer on its device is that expert's second layer in the whole array. -/
theorem wb_eq (h : m ((c : Thread nD τ).loc main_arg3) = Layout.block ⟨3, ![2, 1024, 512]⟩ ⟨3, ![16, 1024, 512]⟩ 0 8 c w2) (e : Fin 16) (j : Fin 2)
    (he : c.val * 2 + j.val = e.val) (f : Fin 1024) (k : Fin 512) : wb m ρ c j f k = w2 (ix3 e f k) := by
  refine (W2S_apply m ρ c (ix3 j f k)).trans ((congrFun h (ix3 j f k)).trans ?_)
  exact congrArg w2 (funext fun b => Fin.ext (by match b with | ⟨0, _⟩ => exact he | ⟨1, _⟩ => rfl | ⟨2, _⟩ => rfl))

/-- A device's result at a token is the reference's result at the token's place. -/
theorem value_at (hfits : ∀ e : Fin 16, (Finset.univ.filter fun u : Fin 512 => asg m ρ c u = BitVec.ofNat 32 e.val).card ≤ 48)
    (h0 : m ((c : Thread nD τ).loc main_arg0) = Layout.block ⟨2, ![512, 512]⟩ ⟨2, ![4096, 512]⟩ 0 8 c x)
    (h1 : m ((c : Thread nD τ).loc main_arg1) = Layout.block ⟨1, ![512]⟩ ⟨1, ![4096]⟩ 0 8 c a)
    (h2 : ∀ d : Dev nD, m ((d : Thread nD τ).loc main_arg2) = Layout.block ⟨3, ![2, 512, 1024]⟩ ⟨3, ![16, 512, 1024]⟩ 0 8 d w1)
    (h3 : ∀ d : Dev nD, m ((d : Thread nD τ).loc main_arg3) = Layout.block ⟨3, ![2, 1024, 512]⟩ ⟨3, ![16, 1024, 512]⟩ 0 8 d w2)
    (t k : Fin 512) : OUT m ρ c (ix2 t k) = (ReferenceIdeal.Value.result x a w1 w2 (ix2 (place8 c t) k) : EReal) := by
  rw [ReferenceIdeal.Value.result_apply, ← asg_eq m ρ c a h1 t]
  by_cases hex : ∃ e, e < 16 ∧ asg m ρ c t = BitVec.ofNat 32 e
  · obtain ⟨e, he, hae⟩ := hex
    rw [Finset.sum_eq_single (⟨e, he⟩ : Fin 16), if_pos hae]
    · refine (OUT_own m ρ c e he t k hae (rank_small m ρ c hfits e he t hae)).trans ?_
      have hd : e / 2 * 2 + e % 2 = e := by omega
      have ha := funext fun d => funext fun f => wa_eq m ρ ⟨e / 2, by show e / 2 < 8; omega⟩ w1 (h2 _) ⟨e, he⟩ ⟨e % 2, by omega⟩ hd d f
      have hb := funext fun f => funext fun k => wb_eq m ρ ⟨e / 2, by show e / 2 < 8; omega⟩ w2 (h3 _) ⟨e, he⟩ ⟨e % 2, by omega⟩ hd f k
      have ht := funext fun d => tok_eq m ρ c x h0 t d
      exact congr (congr (congrArg₂ ffn ha hb) ht) rfl
    · exact fun b _ hb => if_neg fun q => hb (Fin.ext (word_inj b.isLt he (q.symm.trans hae)))
    · exact fun q => absurd (Finset.mem_univ _) q
  · rw [Finset.sum_eq_zero fun e _ => if_neg fun q => hex ⟨e.val, e.isLt, q⟩]
    exact OUT_none m ρ c t k fun e he q => hex ⟨e, he, q⟩

/-- A device's result is its block of the reference's result. -/
theorem value (hfits : ∀ e : Fin 16, (Finset.univ.filter fun u : Fin 512 => asg m ρ c u = BitVec.ofNat 32 e.val).card ≤ 48)
    (h0 : m ((c : Thread nD τ).loc main_arg0) = Layout.block ⟨2, ![512, 512]⟩ ⟨2, ![4096, 512]⟩ 0 8 c x)
    (h1 : m ((c : Thread nD τ).loc main_arg1) = Layout.block ⟨1, ![512]⟩ ⟨1, ![4096]⟩ 0 8 c a)
    (h2 : ∀ d : Dev nD, m ((d : Thread nD τ).loc main_arg2) = Layout.block ⟨3, ![2, 512, 1024]⟩ ⟨3, ![16, 512, 1024]⟩ 0 8 d w1)
    (h3 : ∀ d : Dev nD, m ((d : Thread nD τ).loc main_arg3) = Layout.block ⟨3, ![2, 1024, 512]⟩ ⟨3, ![16, 1024, 512]⟩ 0 8 d w2) :
    OUT m ρ c = Layout.block ⟨2, ![512, 512]⟩ ⟨2, ![4096, 512]⟩ 0 8 c (ReferenceIdeal.Value.result x a w1 w2) := by
  funext i
  rw [ValueIdx.eq_ix2 i]
  refine (value_at m ρ c x a w1 w2 hfits h0 h1 h2 h3 (i 0) (i 1)).trans ?_
  exact congrArg (ReferenceIdeal.Value.result x a w1 w2) (funext fun b => Fin.ext (by match b with | ⟨0, _⟩ => rfl | ⟨1, _⟩ => rfl))

/-- The experts' words of a device within the precondition fit their slots. -/
theorem fits_of (h : Cert.Pre_KernelIdeal_fits_KernelIdeal (hPre_fits_KernelIdeal := Pre_fits_KernelIdeal.Gen.facts) m) (e : Fin 16) :
    (Finset.univ.filter fun u : Fin 512 => asg m ρ c u = BitVec.ofNat 32 e.val).card ≤ 48 := by
  refine le_trans (le_of_eq (congrArg Finset.card (Finset.filter_congr fun u _ => ?_))) (count_le _ _ _ _ (h c) e)
  exact Eq.congr_left (AS_apply m ρ c (ix1 u))

end Cert.KernelIdeal.Run

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_fits_KernelIdeal
public import proofs.«01_k».proof.Proof.Gen.Pre_fits_ReferenceIdeal
public import proofs.«01_k».proof.Proof.KernelEnd
public import proofs.«01_k».proof.Proof.KernelIdealEnd
public import proofs.«01_k».proof.Proof.IdealValue
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem

/-- The reference runs, leaves its arguments alone, and has no counter to leave. -/
theorem frame_r : Cert.quiescent_ReferenceIdeal (hReferenceIdeal := ReferenceIdeal.Gen.facts) := fun m ρ _ =>
  (θ_run (ReferenceIdeal.defs (F := Ideal)) _ _).mono
    (fun r h => ⟨fun c => (h c).2, sem_eq_zero_of_no_sems (by decide) r.2⟩) (ReferenceIdeal.Value.run m ρ)

/-- Every device's result is its block of the reference's result. -/
theorem value_r : Cert.algebraic_KernelIdeal_ReferenceIdeal_pre_fits_KernelIdeal (hKernelIdeal := KernelIdeal.Gen.facts)
    (hReferenceIdeal := ReferenceIdeal.Gen.facts) (hPre_fits_KernelIdeal := Pre_fits_KernelIdeal.Gen.facts) := fun m g m' g' hpre hargs =>
  ⟨ReferenceIdeal.Value.result (m' ((0 : Dev ReferenceIdeal.nD).tc.loc ReferenceIdeal.main_arg0)) (m' ((0 : Dev ReferenceIdeal.nD).tc.loc ReferenceIdeal.main_arg1))
      (m' ((0 : Dev ReferenceIdeal.nD).tc.loc ReferenceIdeal.main_arg2)) (m' ((0 : Dev ReferenceIdeal.nD).tc.loc ReferenceIdeal.main_arg3)),
    (θ_run (KernelIdeal.defs (F := Ideal)) _ _).mono (fun r h c =>
      ⟨(h.1 c 4).trans ((KernelIdeal.Run.final_out m g c).trans (KernelIdeal.Run.value m g c _ _ _ _ (KernelIdeal.Run.fits_of m g c hpre)
          (hargs c).1 (hargs c).2.1 (fun d => (hargs d).2.2.1) (fun d => (hargs d).2.2.2))),
        (h.1 c 0).trans ((KernelIdeal.Run.dats m g 0 c).arrAt_in 0 rfl _), (h.1 c 1).trans ((KernelIdeal.Run.dats m g 0 c).arrAt_in 1 rfl _),
        (h.1 c 2).trans ((KernelIdeal.Run.dats m g 0 c).arrAt_in 2 rfl _), (h.1 c 3).trans ((KernelIdeal.Run.dats m g 0 c).arrAt_in 3 rfl _)⟩)
      (KernelIdeal.Run.run_main m g),
    (θ_run (ReferenceIdeal.defs (F := Ideal)) _ _).mono (fun r h => h 0) (ReferenceIdeal.Value.run m' g')⟩

/-- Everything the certificate claims. -/
theorem claim : Cert.Claim := ⟨Cert.Kernel.Gen.facts, Cert.KernelIdeal.Gen.facts, Cert.ReferenceIdeal.Gen.facts, Cert.Pre_fits_KernelIdeal.Gen.facts, Cert.Pre_fits_ReferenceIdeal.Gen.facts,
  fun m ρ _ => Kernel.Run.args_kept m ρ,
  fun m ρ _ => KernelIdeal.Run.args_kept m ρ,
  fun m ρ _ => KernelIdeal.Run.args_kept m ρ,
  frame_r,
  fun m ρ _ => frame_r m ρ trivial,
  trivial, value_r⟩

end Cert.Proof

end
